-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_t_in_range [hPre_t_in_range : Cert.Pre_t_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_t_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_t_in_range [hPre_t_in_range : Cert.Pre_t_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_t_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_t_in_range [hKernelIdeal : Cert.KernelIdeal.Facts] [hPre_t_in_range : Cert.Pre_t_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_t_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_t_in_range [hReferenceIdeal : Cert.ReferenceIdeal.Facts] [hPre_t_in_range : Cert.Pre_t_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_t_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_t_in_range [hKernelIdeal : Cert.KernelIdeal.Facts] [hReferenceIdeal : Cert.ReferenceIdeal.Facts] [hPre_t_in_range : Cert.Pre_t_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_t_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1025) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_t_in_range : Cert.Pre_t_in_range.Facts),
    quiescent_Kernel (hKernel := hKernel)
    ∧ quiescent_KernelIdeal (hKernelIdeal := hKernelIdeal)
    ∧ quiescent_KernelIdeal_pre_t_in_range (hKernelIdeal := hKernelIdeal) (hPre_t_in_range := hPre_t_in_range)
    ∧ quiescent_ReferenceIdeal (hReferenceIdeal := hReferenceIdeal)
    ∧ quiescent_ReferenceIdeal_pre_t_in_range (hReferenceIdeal := hReferenceIdeal) (hPre_t_in_range := hPre_t_in_range)
    ∧ preserves_Kernel_KernelIdeal
    ∧ algebraic_KernelIdeal_ReferenceIdeal_pre_t_in_range (hKernelIdeal := hKernelIdeal) (hReferenceIdeal := hReferenceIdeal) (hPre_t_in_range := hPre_t_in_range)
-- ==== Pre_t_in_range.lean ====
abbrev S128x4096 : Shape := ⟨2, ![128, 4096]⟩
abbrev S128 : Shape := ⟨1, ![128]⟩
abbrev S1000 : Shape := ⟨1, ![1000]⟩
abbrev S_ : Shape := ⟨0, ![]⟩

class Facts : Prop where
  bcast_S_S128 : S_.BroadcastsInDim S128 (![] : Fin 0 → Fin S128.rank)

variable [Facts]

def fn {F : FTy → Type} [FloatOps F] (main_arg0 : IVec S128x4096 32) (main_arg1 : IVec S128 32) (main_arg2 : FVec F S1000 .f32) : IVec S128 1 :=
  let main_c : IVec S_ 32 := constantI S_ 32 0#32
  let main_v0 : IVec S128 32 := broadcastInDim S128 ![] bcast_S_S128 main_c
  let main_v1 : IVec S128 1 := cmpi .sge main_arg1 main_v0
  let main_c_0 : IVec S_ 32 := constantI S_ 32 1000#32
  let main_v2 : IVec S128 32 := broadcastInDim S128 ![] bcast_S_S128 main_c_0
  let main_v3 : IVec S128 1 := cmpi .slt main_arg1 main_v2
  let main_v4 : IVec S128 1 := andi main_v1 main_v3
  main_v4
-- ==== Kernel.lean ====
abbrev S128x4096 : Shape := ⟨2, ![128, 4096]⟩
abbrev S128 : Shape := ⟨1, ![128]⟩
abbrev S1000 : Shape := ⟨1, ![1000]⟩
abbrev S128x1 : Shape := ⟨2, ![128, 1]⟩
abbrev S1x1000 : Shape := ⟨2, ![1, 1000]⟩
abbrev S128x1000 : Shape := ⟨2, ![128, 1000]⟩
abbrev S8x1 : Shape := ⟨2, ![8, 1]⟩
abbrev S8x512 : Shape := ⟨2, ![8, 512]⟩

abbrev nBuf : Space → Nat
  | .hbm => 7
  | .vmem => 9
  | .smem => 0
  | _ => 0

abbrev bufTy : (tb : Table) → Fin (tcTables nBuf tb) → BufTy
  | .hbm, ⟨0, _⟩ => ⟨S128x4096, .i32⟩
  | .hbm, ⟨1, _⟩ => ⟨S128, .i32⟩
  | .hbm, ⟨2, _⟩ => ⟨S1000, .f32⟩
  | .hbm, ⟨3, _⟩ => ⟨S128x1, .i32⟩
  | .hbm, ⟨4, _⟩ => ⟨S1x1000, .f32⟩
  | .hbm, ⟨5, _⟩ => ⟨S128x1, .i32⟩
  | .hbm, ⟨6, _⟩ => ⟨S128x4096, .i32⟩
  | .local _ .vmem, ⟨0, _⟩ => ⟨S128x1, .i32⟩
  | .local _ .vmem, ⟨1, _⟩ => ⟨S1x1000, .f32⟩
  | .local _ .vmem, ⟨2, _⟩ => ⟨S128x1, .i32⟩
  | .local _ .vmem, ⟨3, _⟩ => ⟨S8x1, .i32⟩
  | .local _ .vmem, ⟨4, _⟩ => ⟨S8x1, .i32⟩
  | .local _ .vmem, ⟨5, _⟩ => ⟨S8x512, .i32⟩
  | .local _ .vmem, ⟨6, _⟩ => ⟨S8x512, .i32⟩
  | .local _ .vmem, ⟨7, _⟩ => ⟨S8x512, .i32⟩
  | .local _ .vmem, ⟨8, _⟩ => ⟨S8x512, .i32⟩
  | _, _ => ⟨S128x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := .none

abbrev stage0_0 : Fin 1 → Memref sig .tc .vmem S128x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S8x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S128x4096 : Shape := ⟨2, ![128, 4096]⟩
abbrev S128 : Shape := ⟨1, ![128]⟩
abbrev S1000 : Shape := ⟨1, ![1000]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S128x1 : Shape := ⟨2, ![128, 1]⟩

abbrev nBuf : Space → Nat
  | .hbm => 1299
  | .vmem => 0
  | .smem => 0
  | _ => 0

abbrev hbmTy0_0 (i : Nat) : BufTy := match i % 128 with
  | 0 => ⟨S128x4096, .i32⟩
  | 1 => ⟨S128, .i32⟩
  | 2 => ⟨S1000, .f32⟩
  | 3 => ⟨S_, .i32⟩
  | 4 => ⟨S_, .i32⟩
  | 5 => ⟨S_, .i32⟩
  | 6 => ⟨S1, .i32⟩
  | 7 => ⟨S1, .i32⟩
  | 8 => ⟨S2, .i32⟩
  | 9 => ⟨S_, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S1, .i32⟩
  | 17 => ⟨S_, .i32⟩
  | 18 => ⟨S1, .i32⟩
  | 19 => ⟨S_, .i32⟩
  | 20 => ⟨S_, .i32⟩
  | 21 => ⟨S2, .i32⟩
  | 22 => ⟨S_, .i32⟩
  | 23 => ⟨S_, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S128x4096, .i32⟩

abbrev hbmTy0_1 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S2x1, .i32⟩
  | 117 => ⟨S2x1, .i32⟩
  | 118 => ⟨S2x2, .i32⟩
  | 119 => ⟨S1x2, .i32⟩
  | 120 => ⟨S2, .i32⟩
  | 121 => ⟨S1x2, .i32⟩
  | 122 => ⟨S2, .i32⟩
  | 123 => ⟨S_, .i32⟩
  | 124 => ⟨S_, .i32⟩
  | 125 => ⟨S_, .i32⟩
  | 126 => ⟨S_, .i32⟩
  | 127 => ⟨S_, .i32⟩
  | _ => ⟨S128x4096, .i32⟩

abbrev hbmTy0_2 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S1x1, .i32⟩
  | 13 => ⟨S1x1, .i32⟩
  | 14 => ⟨S_, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S1, .i32⟩
  | 22 => ⟨S_, .i32⟩
  | 23 => ⟨S1, .i32⟩
  | 24 => ⟨S_, .i32⟩
  | 25 => ⟨S_, .i32⟩
  | 26 => ⟨S2, .i32⟩
  | 27 => ⟨S_, .i32⟩
  | 28 => ⟨S_, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S128x4096, .i32⟩

abbrev hbmTy0_3 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S2x1, .i32⟩
  | 122 => ⟨S2x1, .i32⟩
  | 123 => ⟨S2x2, .i32⟩
  | 124 => ⟨S1x2, .i32⟩
  | 125 => ⟨S2, .i32⟩
  | 126 => ⟨S1x2, .i32⟩
  | 127 => ⟨S2, .i32⟩
  | _ => ⟨S128x4096, .i32⟩

abbrev hbmTy0_4 (i : Nat) : BufTy := match i % 128 with
  | 0 => ⟨S_, .i32⟩
  | 1 => ⟨S128x4096, .i32⟩
  | 2 => ⟨S_, .i32⟩
  | 3 => ⟨S128x4096, .i32⟩
  | 4 => ⟨S128x4096, .i32⟩
  | 5 => ⟨S128x4096, .i32⟩
  | 6 => ⟨S128x4096, .i32⟩
  | 7 => ⟨S_, .i32⟩
  | 8 => ⟨S128x4096, .i32⟩
  | 9 => ⟨S128x4096, .i32⟩
  | 10 => ⟨S128x4096, .i32⟩
  | 11 => ⟨S128x4096, .i32⟩
  | 12 => ⟨S1, .i32⟩
  | 13 => ⟨S_, .i32⟩
  | 14 => ⟨S1, .i32⟩
  | 15 => ⟨S_, .i32⟩
  | 16 => ⟨S_, .i32⟩
  | 17 => ⟨S128x4096, .i32⟩
  | 18 => ⟨S_, .i32⟩
  | 19 => ⟨S_, .i32⟩
  | 20 => ⟨S_, .i32⟩
  | 21 => ⟨S128x4096, .i32⟩
  | 22 => ⟨S128x4096, .i32⟩
  | 23 => ⟨S128x4096, .i32⟩
  | 24 => ⟨S128x4096, .i32⟩
  | 25 => ⟨S128x4096, .i32⟩
  | 26 => ⟨S_, .i32⟩
  | 27 => ⟨S128x4096, .i32⟩
  | 28 => ⟨S128x4096, .i32⟩
  | 29 => ⟨S_, .i32⟩
  | 30 => ⟨S128x4096, .i32⟩
  | 31 => ⟨S128x4096, .i32⟩
  | 32 => ⟨S128x4096, .i32⟩
  | 33 => ⟨S128x4096, .i32⟩
  | 34 => ⟨S128x4096, .i32⟩
  | 35 => ⟨S_, .i32⟩
  | 36 => ⟨S128x4096, .i32⟩
  | 37 => ⟨S128x4096, .i32⟩
  | 38 => ⟨S_, .i32⟩
  | 39 => ⟨S128x4096, .i32⟩
  | 40 => ⟨S128x4096, .i32⟩
  | 41 => ⟨S128x4096, .i32⟩
  | 42 => ⟨S128x4096, .i32⟩
  | 43 => ⟨S128x4096, .i32⟩
  | 44 => ⟨S_, .i32⟩
  | 45 => ⟨S128x4096, .i32⟩
  | 46 => ⟨S128x4096, .i32⟩
  | 47 => ⟨S_, .i32⟩
  | 48 => ⟨S128x4096, .i32⟩
  | 49 => ⟨S128x4096, .i32⟩
  | 50 => ⟨S128x4096, .i32⟩
  | 51 => ⟨S128x4096, .i32⟩
  | 52 => ⟨S128x4096, .i32⟩
  | 53 => ⟨S_, .i32⟩
  | 54 => ⟨S128x4096, .i32⟩
  | 55 => ⟨S128x4096, .i32⟩
  | 56 => ⟨S_, .i32⟩
  | 57 => ⟨S128x4096, .i32⟩
  | 58 => ⟨S128x4096, .i32⟩
  | 59 => ⟨S128x4096, .i32⟩
  | 60 => ⟨S128x4096, .i32⟩
  | 61 => ⟨S128x4096, .i32⟩
  | 62 => ⟨S128x4096, .i32⟩
  | 63 => ⟨S128x4096, .i32⟩
  | 64 => ⟨S128x4096, .i32⟩
  | 65 => ⟨S_, .i32⟩
  | 66 => ⟨S128x4096, .i32⟩
  | 67 => ⟨S128x4096, .i32⟩
  | 68 => ⟨S128x4096, .i32⟩
  | 69 => ⟨S_, .i32⟩
  | 70 => ⟨S128x4096, .i32⟩
  | 71 => ⟨S128x4096, .i32⟩
  | 72 => ⟨S_, .i32⟩
  | 73 => ⟨S128x4096, .i32⟩
  | 74 => ⟨S128x4096, .i32⟩
  | 75 => ⟨S128x4096, .i32⟩
  | 76 => ⟨S128x4096, .i32⟩
  | 77 => ⟨S128x4096, .i32⟩
  | 78 => ⟨S_, .i32⟩
  | 79 => ⟨S128x4096, .i32⟩
  | 80 => ⟨S128x4096, .i32⟩
  | 81 => ⟨S_, .i32⟩
  | 82 => ⟨S128x4096, .i32⟩
  | 83 => ⟨S128x4096, .i32⟩
  | 84 => ⟨S128x4096, .i32⟩
  | 85 => ⟨S128x4096, .i32⟩
  | 86 => ⟨S128x4096, .i32⟩
  | 87 => ⟨S_, .i32⟩
  | 88 => ⟨S128x4096, .i32⟩
  | 89 => ⟨S128x4096, .i32⟩
  | 90 => ⟨S_, .i32⟩
  | 91 => ⟨S128x4096, .i32⟩
  | 92 => ⟨S128x4096, .i32⟩
  | 93 => ⟨S128x4096, .i32⟩
  | 94 => ⟨S128x4096, .i32⟩
  | 95 => ⟨S128x4096, .i32⟩
  | 96 => ⟨S_, .i32⟩
  | 97 => ⟨S128x4096, .i32⟩
  | 98 => ⟨S128x4096, .i32⟩
  | 99 => ⟨S_, .i32⟩
  | 100 => ⟨S128x4096, .i32⟩
  | 101 => ⟨S128x4096, .i32⟩
  | 102 => ⟨S128x4096, .i32⟩
  | 103 => ⟨S128x4096, .i32⟩
  | 104 => ⟨S128x4096, .i32⟩
  | 105 => ⟨S128x4096, .i32⟩
  | 106 => ⟨S128x4096, .i32⟩
  | 107 => ⟨S128x4096, .i32⟩
  | 108 => ⟨S_, .i32⟩
  | 109 => ⟨S128x4096, .i32⟩
  | 110 => ⟨S128x4096, .i32⟩
  | 111 => ⟨S128x4096, .i32⟩
  | 112 => ⟨S_, .i32⟩
  | 113 => ⟨S128x4096, .i32⟩
  | 114 => ⟨S128x4096, .i32⟩
  | 115 => ⟨S_, .i32⟩
  | 116 => ⟨S128x4096, .i32⟩
  | 117 => ⟨S128x4096, .i32⟩
  | 118 => ⟨S128x4096, .i32⟩
  | 119 => ⟨S128x4096, .i32⟩
  | 120 => ⟨S128x4096, .i32⟩
  | 121 => ⟨S_, .i32⟩
  | 122 => ⟨S128x4096, .i32⟩
  | 123 => ⟨S128x4096, .i32⟩
  | 124 => ⟨S_, .i32⟩
  | 125 => ⟨S128x4096, .i32⟩
  | 126 => ⟨S128x4096, .i32⟩
  | 127 => ⟨S128x4096, .i32⟩
  | _ => ⟨S128x4096, .i32⟩

abbrev hbmTy0_5 (i : Nat) : BufTy := match i % 128 with
  | 0 => ⟨S128x4096, .i32⟩
  | 1 => ⟨S128x4096, .i32⟩
  | 2 => ⟨S_, .i32⟩
  | 3 => ⟨S128x4096, .i32⟩
  | 4 => ⟨S128x4096, .i32⟩
  | 5 => ⟨S_, .i32⟩
  | 6 => ⟨S128x4096, .i32⟩
  | 7 => ⟨S128x4096, .i32⟩
  | 8 => ⟨S128x4096, .i32⟩
  | 9 => ⟨S128x4096, .i32⟩
  | 10 => ⟨S128x4096, .i32⟩
  | 11 => ⟨S_, .i32⟩
  | 12 => ⟨S128x4096, .i32⟩
  | 13 => ⟨S128x4096, .i32⟩
  | 14 => ⟨S_, .i32⟩
  | 15 => ⟨S128x4096, .i32⟩
  | 16 => ⟨S128x4096, .i32⟩
  | 17 => ⟨S128x4096, .i32⟩
  | 18 => ⟨S128x4096, .i32⟩
  | 19 => ⟨S128x4096, .i32⟩
  | 20 => ⟨S128x4096, .i32⟩
  | 21 => ⟨S128x4096, .i32⟩
  | 22 => ⟨S128x4096, .i32⟩
  | 23 => ⟨S_, .i32⟩
  | 24 => ⟨S128x4096, .i32⟩
  | 25 => ⟨S128x4096, .i32⟩
  | 26 => ⟨S128x4096, .i32⟩
  | 27 => ⟨S_, .i32⟩
  | 28 => ⟨S128x4096, .i32⟩
  | 29 => ⟨S128x4096, .i32⟩
  | 30 => ⟨S_, .i32⟩
  | 31 => ⟨S128x4096, .i32⟩
  | 32 => ⟨S128x4096, .i32⟩
  | 33 => ⟨S128x4096, .i32⟩
  | 34 => ⟨S128x4096, .i32⟩
  | 35 => ⟨S128x4096, .i32⟩
  | 36 => ⟨S_, .i32⟩
  | 37 => ⟨S128x4096, .i32⟩
  | 38 => ⟨S128x4096, .i32⟩
  | 39 => ⟨S_, .i32⟩
  | 40 => ⟨S128x4096, .i32⟩
  | 41 => ⟨S128x4096, .i32⟩
  | 42 => ⟨S128x4096, .i32⟩
  | 43 => ⟨S128x4096, .i32⟩
  | 44 => ⟨S128x4096, .i32⟩
  | 45 => ⟨S_, .i32⟩
  | 46 => ⟨S128x4096, .i32⟩
  | 47 => ⟨S128x4096, .i32⟩
  | 48 => ⟨S_, .i32⟩
  | 49 => ⟨S128x4096, .i32⟩
  | 50 => ⟨S128x4096, .i32⟩
  | 51 => ⟨S128x4096, .i32⟩
  | 52 => ⟨S128x4096, .i32⟩
  | 53 => ⟨S128x4096, .i32⟩
  | 54 => ⟨S_, .i32⟩
  | 55 => ⟨S128x4096, .i32⟩
  | 56 => ⟨S128x4096, .i32⟩
  | 57 => ⟨S_, .i32⟩
  | 58 => ⟨S128x4096, .i32⟩
  | 59 => ⟨S128x4096, .i32⟩
  | 60 => ⟨S128x4096, .i32⟩
  | 61 => ⟨S128x4096, .i32⟩
  | 62 => ⟨S128x4096, .i32⟩
  | 63 => ⟨S128x4096, .i32⟩
  | 64 => ⟨S128x4096, .i32⟩
  | 65 => ⟨S128x4096, .i32⟩
  | 66 => ⟨S_, .i32⟩
  | 67 => ⟨S128x4096, .i32⟩
  | 68 => ⟨S128x4096, .i32⟩
  | 69 => ⟨S128x4096, .i32⟩
  | 70 => ⟨S_, .i32⟩
  | 71 => ⟨S128x4096, .i32⟩
  | 72 => ⟨S128x4096, .i32⟩
  | 73 => ⟨S_, .i32⟩
  | 74 => ⟨S128x4096, .i32⟩
  | 75 => ⟨S128x4096, .i32⟩
  | 76 => ⟨S128x4096, .i32⟩
  | 77 => ⟨S128x4096, .i32⟩
  | 78 => ⟨S128x4096, .i32⟩
  | 79 => ⟨S_, .i32⟩
  | 80 => ⟨S128x4096, .i32⟩
  | 81 => ⟨S128x4096, .i32⟩
  | 82 => ⟨S_, .i32⟩
  | 83 => ⟨S128x4096, .i32⟩
  | 84 => ⟨S128x4096, .i32⟩
  | 85 => ⟨S128x4096, .i32⟩
  | 86 => ⟨S128x4096, .i32⟩
  | 87 => ⟨S128x4096, .i32⟩
  | 88 => ⟨S_, .i32⟩
  | 89 => ⟨S128x4096, .i32⟩
  | 90 => ⟨S128x4096, .i32⟩
  | 91 => ⟨S_, .i32⟩
  | 92 => ⟨S128x4096, .i32⟩
  | 93 => ⟨S128x4096, .i32⟩
  | 94 => ⟨S128x4096, .i32⟩
  | 95 => ⟨S128x4096, .i32⟩
  | 96 => ⟨S128x4096, .i32⟩
  | 97 => ⟨S_, .i32⟩
  | 98 => ⟨S128x4096, .i32⟩
  | 99 => ⟨S128x4096, .i32⟩
  | 100 => ⟨S_, .i32⟩
  | 101 => ⟨S128x4096, .i32⟩
  | 102 => ⟨S128x4096, .i32⟩
  | 103 => ⟨S128x4096, .i32⟩
  | 104 => ⟨S128x4096, .i32⟩
  | 105 => ⟨S128x4096, .i32⟩
  | 106 => ⟨S128x4096, .i32⟩
  | 107 => ⟨S128x4096, .i32⟩
  | 108 => ⟨S128x4096, .i32⟩
  | 109 => ⟨S_, .i32⟩
  | 110 => ⟨S128x4096, .i32⟩
  | 111 => ⟨S128x4096, .i32⟩
  | 112 => ⟨S128x4096, .i32⟩
  | 113 => ⟨S_, .i32⟩
  | 114 => ⟨S128x4096, .i32⟩
  | 115 => ⟨S_, .i32⟩
  | 116 => ⟨S128x4096, .i32⟩
  | 117 => ⟨S128x4096, .i32⟩
  | 118 => ⟨S128x4096, .i32⟩
  | 119 => ⟨S128x4096, .i32⟩
  | 120 => ⟨S_, .i32⟩
  | 121 => ⟨S128x4096, .i32⟩
  | 122 => ⟨S128x4096, .i32⟩
  | 123 => ⟨S128x4096, .i32⟩
  | 124 => ⟨S128x4096, .i32⟩
  | 125 => ⟨S1, .i32⟩
  | 126 => ⟨S_, .i32⟩
  | 127 => ⟨S1, .i32⟩
  | _ => ⟨S128x4096, .i32⟩

abbrev hbmTy0_6 (i : Nat) : BufTy := match i % 128 with
  | 0 => ⟨S_, .i32⟩
  | 1 => ⟨S_, .i32⟩
  | 2 => ⟨S128x4096, .i32⟩
  | 3 => ⟨S_, .i32⟩
  | 4 => ⟨S_, .i32⟩
  | 5 => ⟨S_, .i32⟩
  | 6 => ⟨S128x4096, .i32⟩
  | 7 => ⟨S128x4096, .i32⟩
  | 8 => ⟨S128x4096, .i32⟩
  | 9 => ⟨S128x4096, .i32⟩
  | 10 => ⟨S128x4096, .i32⟩
  | 11 => ⟨S_, .i32⟩
  | 12 => ⟨S128x4096, .i32⟩
  | 13 => ⟨S128x4096, .i32⟩
  | 14 => ⟨S_, .i32⟩
  | 15 => ⟨S128x4096, .i32⟩
  | 16 => ⟨S128x4096, .i32⟩
  | 17 => ⟨S128x4096, .i32⟩
  | 18 => ⟨S128x4096, .i32⟩
  | 19 => ⟨S128x4096, .i32⟩
  | 20 => ⟨S_, .i32⟩
  | 21 => ⟨S128x4096, .i32⟩
  | 22 => ⟨S128x4096, .i32⟩
  | 23 => ⟨S_, .i32⟩
  | 24 => ⟨S128x4096, .i32⟩
  | 25 => ⟨S128x4096, .i32⟩
  | 26 => ⟨S128x4096, .i32⟩
  | 27 => ⟨S128x4096, .i32⟩
  | 28 => ⟨S128x4096, .i32⟩
  | 29 => ⟨S_, .i32⟩
  | 30 => ⟨S128x4096, .i32⟩
  | 31 => ⟨S128x4096, .i32⟩
  | 32 => ⟨S_, .i32⟩
  | 33 => ⟨S128x4096, .i32⟩
  | 34 => ⟨S128x4096, .i32⟩
  | 35 => ⟨S128x4096, .i32⟩
  | 36 => ⟨S128x4096, .i32⟩
  | 37 => ⟨S128x4096, .i32⟩
  | 38 => ⟨S_, .i32⟩
  | 39 => ⟨S128x4096, .i32⟩
  | 40 => ⟨S128x4096, .i32⟩
  | 41 => ⟨S_, .i32⟩
  | 42 => ⟨S128x4096, .i32⟩
  | 43 => ⟨S128x4096, .i32⟩
  | 44 => ⟨S128x4096, .i32⟩
  | 45 => ⟨S128x4096, .i32⟩
  | 46 => ⟨S128x4096, .i32⟩
  | 47 => ⟨S128x4096, .i32⟩
  | 48 => ⟨S128x4096, .i32⟩
  | 49 => ⟨S128x4096, .i32⟩
  | 50 => ⟨S_, .i32⟩
  | 51 => ⟨S128x4096, .i32⟩
  | 52 => ⟨S128x4096, .i32⟩
  | 53 => ⟨S128x4096, .i32⟩
  | 54 => ⟨S_, .i32⟩
  | 55 => ⟨S128x4096, .i32⟩
  | 56 => ⟨S128x4096, .i32⟩
  | 57 => ⟨S_, .i32⟩
  | 58 => ⟨S128x4096, .i32⟩
  | 59 => ⟨S128x4096, .i32⟩
  | 60 => ⟨S128x4096, .i32⟩
  | 61 => ⟨S128x4096, .i32⟩
  | 62 => ⟨S128x4096, .i32⟩
  | 63 => ⟨S_, .i32⟩
  | 64 => ⟨S128x4096, .i32⟩
  | 65 => ⟨S128x4096, .i32⟩
  | 66 => ⟨S_, .i32⟩
  | 67 => ⟨S128x4096, .i32⟩
  | 68 => ⟨S128x4096, .i32⟩
  | 69 => ⟨S128x4096, .i32⟩
  | 70 => ⟨S128x4096, .i32⟩
  | 71 => ⟨S128x4096, .i32⟩
  | 72 => ⟨S_, .i32⟩
  | 73 => ⟨S128x4096, .i32⟩
  | 74 => ⟨S128x4096, .i32⟩
  | 75 => ⟨S_, .i32⟩
  | 76 => ⟨S128x4096, .i32⟩
  | 77 => ⟨S128x4096, .i32⟩
  | 78 => ⟨S128x4096, .i32⟩
  | 79 => ⟨S128x4096, .i32⟩
  | 80 => ⟨S128x4096, .i32⟩
  | 81 => ⟨S_, .i32⟩
  | 82 => ⟨S128x4096, .i32⟩
  | 83 => ⟨S128x4096, .i32⟩
  | 84 => ⟨S_, .i32⟩
  | 85 => ⟨S128x4096, .i32⟩
  | 86 => ⟨S128x4096, .i32⟩
  | 87 => ⟨S128x4096, .i32⟩
  | 88 => ⟨S128x4096, .i32⟩
  | 89 => ⟨S128x4096, .i32⟩
  | 90 => ⟨S128x4096, .i32⟩
  | 91 => ⟨S128x4096, .i32⟩
  | 92 => ⟨S128x4096, .i32⟩
  | 93 => ⟨S_, .i32⟩
  | 94 => ⟨S128x4096, .i32⟩
  | 95 => ⟨S128x4096, .i32⟩
  | 96 => ⟨S128x4096, .i32⟩
  | 97 => ⟨S_, .i32⟩
  | 98 => ⟨S128x4096, .i32⟩
  | 99 => ⟨S128x4096, .i32⟩
  | 100 => ⟨S_, .i32⟩
  | 101 => ⟨S128x4096, .i32⟩
  | 102 => ⟨S128x4096, .i32⟩
  | 103 => ⟨S128x4096, .i32⟩
  | 104 => ⟨S128x4096, .i32⟩
  | 105 => ⟨S128x4096, .i32⟩
  | 106 => ⟨S_, .i32⟩
  | 107 => ⟨S128x4096, .i32⟩
  | 108 => ⟨S128x4096, .i32⟩
  | 109 => ⟨S_, .i32⟩
  | 110 => ⟨S128x4096, .i32⟩
  | 111 => ⟨S128x4096, .i32⟩
  | 112 => ⟨S128x4096, .i32⟩
  | 113 => ⟨S128x4096, .i32⟩
  | 114 => ⟨S128x4096, .i32⟩
  | 115 => ⟨S_, .i32⟩
  | 116 => ⟨S128x4096, .i32⟩
  | 117 => ⟨S128x4096, .i32⟩
  | 118 => ⟨S_, .i32⟩
  | 119 => ⟨S128x4096, .i32⟩
  | 120 => ⟨S128x4096, .i32⟩
  | 121 => ⟨S128x4096, .i32⟩
  | 122 => ⟨S128x4096, .i32⟩
  | 123 => ⟨S128x4096, .i32⟩
  | 124 => ⟨S_, .i32⟩
  | 125 => ⟨S128x4096, .i32⟩
  | 126 => ⟨S128x4096, .i32⟩
  | 127 => ⟨S_, .i32⟩
  | _ => ⟨S128x4096, .i32⟩

abbrev hbmTy0_7 (i : Nat) : BufTy := match i % 128 with
  | 0 => ⟨S128x4096, .i32⟩
  | 1 => ⟨S128x4096, .i32⟩
  | 2 => ⟨S128x4096, .i32⟩
  | 3 => ⟨S128x4096, .i32⟩
  | 4 => ⟨S128x4096, .i32⟩
  | 5 => ⟨S128x4096, .i32⟩
  | 6 => ⟨S128x4096, .i32⟩
  | 7 => ⟨S128x4096, .i32⟩
  | 8 => ⟨S_, .i32⟩
  | 9 => ⟨S128x4096, .i32⟩
  | 10 => ⟨S128x4096, .i32⟩
  | 11 => ⟨S128x4096, .i32⟩
  | 12 => ⟨S_, .i32⟩
  | 13 => ⟨S128x4096, .i32⟩
  | 14 => ⟨S128x4096, .i32⟩
  | 15 => ⟨S_, .i32⟩
  | 16 => ⟨S128x4096, .i32⟩
  | 17 => ⟨S128x4096, .i32⟩
  | 18 => ⟨S128x4096, .i32⟩
  | 19 => ⟨S128x4096, .i32⟩
  | 20 => ⟨S128x4096, .i32⟩
  | 21 => ⟨S_, .i32⟩
  | 22 => ⟨S128x4096, .i32⟩
  | 23 => ⟨S128x4096, .i32⟩
  | 24 => ⟨S_, .i32⟩
  | 25 => ⟨S128x4096, .i32⟩
  | 26 => ⟨S128x4096, .i32⟩
  | 27 => ⟨S128x4096, .i32⟩
  | 28 => ⟨S128x4096, .i32⟩
  | 29 => ⟨S128x4096, .i32⟩
  | 30 => ⟨S_, .i32⟩
  | 31 => ⟨S128x4096, .i32⟩
  | 32 => ⟨S128x4096, .i32⟩
  | 33 => ⟨S_, .i32⟩
  | 34 => ⟨S128x4096, .i32⟩
  | 35 => ⟨S128x4096, .i32⟩
  | 36 => ⟨S128x4096, .i32⟩
  | 37 => ⟨S128x4096, .i32⟩
  | 38 => ⟨S128x4096, .i32⟩
  | 39 => ⟨S_, .i32⟩
  | 40 => ⟨S128x4096, .i32⟩
  | 41 => ⟨S128x4096, .i32⟩
  | 42 => ⟨S_, .i32⟩
  | 43 => ⟨S128x4096, .i32⟩
  | 44 => ⟨S128x4096, .i32⟩
  | 45 => ⟨S128x4096, .i32⟩
  | 46 => ⟨S128x4096, .i32⟩
  | 47 => ⟨S128x4096, .i32⟩
  | 48 => ⟨S128x4096, .i32⟩
  | 49 => ⟨S128x4096, .i32⟩
  | 50 => ⟨S128x4096, .i32⟩
  | 51 => ⟨S_, .i32⟩
  | 52 => ⟨S128x4096, .i32⟩
  | 53 => ⟨S128x4096, .i32⟩
  | 54 => ⟨S128x4096, .i32⟩
  | 55 => ⟨S_, .i32⟩
  | 56 => ⟨S128x4096, .i32⟩
  | 57 => ⟨S128x4096, .i32⟩
  | 58 => ⟨S_, .i32⟩
  | 59 => ⟨S128x4096, .i32⟩
  | 60 => ⟨S128x4096, .i32⟩
  | 61 => ⟨S128x4096, .i32⟩
  | 62 => ⟨S128x4096, .i32⟩
  | 63 => ⟨S128x4096, .i32⟩
  | 64 => ⟨S_, .i32⟩
  | 65 => ⟨S128x4096, .i32⟩
  | 66 => ⟨S128x4096, .i32⟩
  | 67 => ⟨S_, .i32⟩
  | 68 => ⟨S128x4096, .i32⟩
  | 69 => ⟨S128x4096, .i32⟩
  | 70 => ⟨S128x4096, .i32⟩
  | 71 => ⟨S128x4096, .i32⟩
  | 72 => ⟨S128x4096, .i32⟩
  | 73 => ⟨S_, .i32⟩
  | 74 => ⟨S128x4096, .i32⟩
  | 75 => ⟨S128x4096, .i32⟩
  | 76 => ⟨S_, .i32⟩
  | 77 => ⟨S128x4096, .i32⟩
  | 78 => ⟨S128x4096, .i32⟩
  | 79 => ⟨S128x4096, .i32⟩
  | 80 => ⟨S128x4096, .i32⟩
  | 81 => ⟨S128x4096, .i32⟩
  | 82 => ⟨S_, .i32⟩
  | 83 => ⟨S128x4096, .i32⟩
  | 84 => ⟨S128x4096, .i32⟩
  | 85 => ⟨S_, .i32⟩
  | 86 => ⟨S128x4096, .i32⟩
  | 87 => ⟨S128x4096, .i32⟩
  | 88 => ⟨S128x4096, .i32⟩
  | 89 => ⟨S128x4096, .i32⟩
  | 90 => ⟨S128x4096, .i32⟩
  | 91 => ⟨S128x4096, .i32⟩
  | 92 => ⟨S128x4096, .i32⟩
  | 93 => ⟨S128x4096, .i32⟩
  | 94 => ⟨S_, .i32⟩
  | 95 => ⟨S128x4096, .i32⟩
  | 96 => ⟨S128x4096, .i32⟩
  | 97 => ⟨S128x4096, .i32⟩
  | 98 => ⟨S1x1, .i32⟩
  | 99 => ⟨S1x1, .i32⟩
  | 100 => ⟨S1x1, .i1⟩
  | 101 => ⟨S_, .i32⟩
  | 102 => ⟨S1x1, .i32⟩
  | 103 => ⟨S1x1, .i32⟩
  | 104 => ⟨S1x1, .i1⟩
  | 105 => ⟨S1x1, .i1⟩
  | 106 => ⟨S1x1, .i1⟩
  | 107 => ⟨S_, .i32⟩
  | 108 => ⟨S1x1, .i32⟩
  | 109 => ⟨S1x1, .i32⟩
  | 110 => ⟨S1x1, .i32⟩
  | 111 => ⟨S_, .i32⟩
  | 112 => ⟨S1x1, .i32⟩
  | 113 => ⟨S1x1, .i32⟩
  | 114 => ⟨S1x1, .i32⟩
  | 115 => ⟨S1x1, .i32⟩
  | 116 => ⟨S128x4096, .i32⟩
  | 117 => ⟨S128x4096, .i32⟩
  | 118 => ⟨S128x4096, .i32⟩
  | 119 => ⟨S128x4096, .i32⟩
  | 120 => ⟨S128x4096, .i32⟩
  | 121 => ⟨S128x4096, .i32⟩
  | 122 => ⟨S128x4096, .i32⟩
  | 123 => ⟨S128x4096, .i32⟩
  | 124 => ⟨S128x4096, .i32⟩
  | 125 => ⟨S128x4096, .i32⟩
  | 126 => ⟨S128x4096, .i32⟩
  | 127 => ⟨S128x4096, .i32⟩
  | _ => ⟨S128x4096, .i32⟩

abbrev hbmTy0_8 (i : Nat) : BufTy := match i % 128 with
  | 0 => ⟨S_, .i32⟩
  | 1 => ⟨S128, .i32⟩
  | 2 => ⟨S128, .i1⟩
  | 3 => ⟨S_, .i32⟩
  | 4 => ⟨S128, .i32⟩
  | 5 => ⟨S128, .i32⟩
  | 6 => ⟨S128, .i32⟩
  | 7 => ⟨S128x1, .i32⟩
  | 8 => ⟨S128, .f32⟩
  | 9 => ⟨S128x1, .f32⟩
  | 10 => ⟨S_, .f32⟩
  | 11 => ⟨S1x1, .f32⟩
  | 12 => ⟨S_, .f32⟩
  | 13 => ⟨S1x1, .f32⟩
  | 14 => ⟨S_, .i32⟩
  | 15 => ⟨S128x4096, .i32⟩
  | 16 => ⟨S_, .i32⟩
  | 17 => ⟨S128x4096, .i32⟩
  | 18 => ⟨S128x4096, .i32⟩
  | 19 => ⟨S128x4096, .i32⟩
  | 20 => ⟨S128x4096, .i32⟩
  | 21 => ⟨S_, .i32⟩
  | 22 => ⟨S128x4096, .i32⟩
  | 23 => ⟨S128x4096, .i32⟩
  | 24 => ⟨S128x4096, .i32⟩
  | 25 => ⟨S128x4096, .i32⟩
  | 26 => ⟨S1, .i32⟩
  | 27 => ⟨S_, .i32⟩
  | 28 => ⟨S1, .i32⟩
  | 29 => ⟨S_, .i32⟩
  | 30 => ⟨S_, .i32⟩
  | 31 => ⟨S128x4096, .i32⟩
  | 32 => ⟨S_, .i32⟩
  | 33 => ⟨S_, .i32⟩
  | 34 => ⟨S_, .i32⟩
  | 35 => ⟨S128x4096, .i32⟩
  | 36 => ⟨S128x4096, .i32⟩
  | 37 => ⟨S128x4096, .i32⟩
  | 38 => ⟨S128x4096, .i32⟩
  | 39 => ⟨S128x4096, .i32⟩
  | 40 => ⟨S_, .i32⟩
  | 41 => ⟨S128x4096, .i32⟩
  | 42 => ⟨S128x4096, .i32⟩
  | 43 => ⟨S_, .i32⟩
  | 44 => ⟨S128x4096, .i32⟩
  | 45 => ⟨S128x4096, .i32⟩
  | 46 => ⟨S128x4096, .i32⟩
  | 47 => ⟨S128x4096, .i32⟩
  | 48 => ⟨S128x4096, .i32⟩
  | 49 => ⟨S_, .i32⟩
  | 50 => ⟨S128x4096, .i32⟩
  | 51 => ⟨S128x4096, .i32⟩
  | 52 => ⟨S_, .i32⟩
  | 53 => ⟨S128x4096, .i32⟩
  | 54 => ⟨S128x4096, .i32⟩
  | 55 => ⟨S128x4096, .i32⟩
  | 56 => ⟨S128x4096, .i32⟩
  | 57 => ⟨S128x4096, .i32⟩
  | 58 => ⟨S_, .i32⟩
  | 59 => ⟨S128x4096, .i32⟩
  | 60 => ⟨S128x4096, .i32⟩
  | 61 => ⟨S_, .i32⟩
  | 62 => ⟨S128x4096, .i32⟩
  | 63 => ⟨S128x4096, .i32⟩
  | 64 => ⟨S128x4096, .i32⟩
  | 65 => ⟨S128x4096, .i32⟩
  | 66 => ⟨S128x4096, .i32⟩
  | 67 => ⟨S_, .i32⟩
  | 68 => ⟨S128x4096, .i32⟩
  | 69 => ⟨S128x4096, .i32⟩
  | 70 => ⟨S_, .i32⟩
  | 71 => ⟨S128x4096, .i32⟩
  | 72 => ⟨S128x4096, .i32⟩
  | 73 => ⟨S128x4096, .i32⟩
  | 74 => ⟨S128x4096, .i32⟩
  | 75 => ⟨S128x4096, .i32⟩
  | 76 => ⟨S128x4096, .i32⟩
  | 77 => ⟨S128x4096, .i32⟩
  | 78 => ⟨S128x4096, .i32⟩
  | 79 => ⟨S_, .i32⟩
  | 80 => ⟨S128x4096, .i32⟩
  | 81 => ⟨S128x4096, .i32⟩
  | 82 => ⟨S128x4096, .i32⟩
  | 83 => ⟨S_, .i32⟩
  | 84 => ⟨S128x4096, .i32⟩
  | 85 => ⟨S128x4096, .i32⟩
  | 86 => ⟨S_, .i32⟩
  | 87 => ⟨S128x4096, .i32⟩
  | 88 => ⟨S128x4096, .i32⟩
  | 89 => ⟨S128x4096, .i32⟩
  | 90 => ⟨S128x4096, .i32⟩
  | 91 => ⟨S128x4096, .i32⟩
  | 92 => ⟨S_, .i32⟩
  | 93 => ⟨S128x4096, .i32⟩
  | 94 => ⟨S128x4096, .i32⟩
  | 95 => ⟨S_, .i32⟩
  | 96 => ⟨S128x4096, .i32⟩
  | 97 => ⟨S128x4096, .i32⟩
  | 98 => ⟨S128x4096, .i32⟩
  | 99 => ⟨S128x4096, .i32⟩
  | 100 => ⟨S128x4096, .i32⟩
  | 101 => ⟨S_, .i32⟩
  | 102 => ⟨S128x4096, .i32⟩
  | 103 => ⟨S128x4096, .i32⟩
  | 104 => ⟨S_, .i32⟩
  | 105 => ⟨S128x4096, .i32⟩
  | 106 => ⟨S128x4096, .i32⟩
  | 107 => ⟨S128x4096, .i32⟩
  | 108 => ⟨S128x4096, .i32⟩
  | 109 => ⟨S128x4096, .i32⟩
  | 110 => ⟨S_, .i32⟩
  | 111 => ⟨S128x4096, .i32⟩
  | 112 => ⟨S128x4096, .i32⟩
  | 113 => ⟨S_, .i32⟩
  | 114 => ⟨S128x4096, .i32⟩
  | 115 => ⟨S128x4096, .i32⟩
  | 116 => ⟨S128x4096, .i32⟩
  | 117 => ⟨S128x4096, .i32⟩
  | 118 => ⟨S128x4096, .i32⟩
  | 119 => ⟨S128x4096, .i32⟩
  | 120 => ⟨S128x4096, .i32⟩
  | 121 => ⟨S128x4096, .i32⟩
  | 122 => ⟨S_, .i32⟩
  | 123 => ⟨S128x4096, .i32⟩
  | 124 => ⟨S128x4096, .i32⟩
  | 125 => ⟨S128x4096, .i32⟩
  | 126 => ⟨S_, .i32⟩
  | 127 => ⟨S128x4096, .i32⟩
  | _ => ⟨S128x4096, .i32⟩

abbrev hbmTy0_9 (i : Nat) : BufTy := match i % 128 with
  | 0 => ⟨S128x4096, .i32⟩
  | 1 => ⟨S_, .i32⟩
  | 2 => ⟨S128x4096, .i32⟩
  | 3 => ⟨S128x4096, .i32⟩
  | 4 => ⟨S128x4096, .i32⟩
  | 5 => ⟨S128x4096, .i32⟩
  | 6 => ⟨S128x4096, .i32⟩
  | 7 => ⟨S_, .i32⟩
  | 8 => ⟨S128x4096, .i32⟩
  | 9 => ⟨S128x4096, .i32⟩
  | 10 => ⟨S_, .i32⟩
  | 11 => ⟨S128x4096, .i32⟩
  | 12 => ⟨S128x4096, .i32⟩
  | 13 => ⟨S128x4096, .i32⟩
  | 14 => ⟨S128x4096, .i32⟩
  | 15 => ⟨S128x4096, .i32⟩
  | 16 => ⟨S_, .i32⟩
  | 17 => ⟨S128x4096, .i32⟩
  | 18 => ⟨S128x4096, .i32⟩
  | 19 => ⟨S_, .i32⟩
  | 20 => ⟨S128x4096, .i32⟩
  | 21 => ⟨S128x4096, .i32⟩
  | 22 => ⟨S128x4096, .i32⟩
  | 23 => ⟨S128x4096, .i32⟩
  | 24 => ⟨S128x4096, .i32⟩
  | 25 => ⟨S_, .i32⟩
  | 26 => ⟨S128x4096, .i32⟩
  | 27 => ⟨S128x4096, .i32⟩
  | 28 => ⟨S_, .i32⟩
  | 29 => ⟨S128x4096, .i32⟩
  | 30 => ⟨S128x4096, .i32⟩
  | 31 => ⟨S128x4096, .i32⟩
  | 32 => ⟨S128x4096, .i32⟩
  | 33 => ⟨S128x4096, .i32⟩
  | 34 => ⟨S128x4096, .i32⟩
  | 35 => ⟨S128x4096, .i32⟩
  | 36 => ⟨S128x4096, .i32⟩
  | 37 => ⟨S_, .i32⟩
  | 38 => ⟨S128x4096, .i32⟩
  | 39 => ⟨S128x4096, .i32⟩
  | 40 => ⟨S128x4096, .i32⟩
  | 41 => ⟨S_, .i32⟩
  | 42 => ⟨S128x4096, .i32⟩
  | 43 => ⟨S128x4096, .i32⟩
  | 44 => ⟨S_, .i32⟩
  | 45 => ⟨S128x4096, .i32⟩
  | 46 => ⟨S128x4096, .i32⟩
  | 47 => ⟨S128x4096, .i32⟩
  | 48 => ⟨S128x4096, .i32⟩
  | 49 => ⟨S128x4096, .i32⟩
  | 50 => ⟨S_, .i32⟩
  | 51 => ⟨S128x4096, .i32⟩
  | 52 => ⟨S128x4096, .i32⟩
  | 53 => ⟨S_, .i32⟩
  | 54 => ⟨S128x4096, .i32⟩
  | 55 => ⟨S128x4096, .i32⟩
  | 56 => ⟨S128x4096, .i32⟩
  | 57 => ⟨S128x4096, .i32⟩
  | 58 => ⟨S128x4096, .i32⟩
  | 59 => ⟨S_, .i32⟩
  | 60 => ⟨S128x4096, .i32⟩
  | 61 => ⟨S128x4096, .i32⟩
  | 62 => ⟨S_, .i32⟩
  | 63 => ⟨S128x4096, .i32⟩
  | 64 => ⟨S128x4096, .i32⟩
  | 65 => ⟨S128x4096, .i32⟩
  | 66 => ⟨S128x4096, .i32⟩
  | 67 => ⟨S128x4096, .i32⟩
  | 68 => ⟨S_, .i32⟩
  | 69 => ⟨S128x4096, .i32⟩
  | 70 => ⟨S128x4096, .i32⟩
  | 71 => ⟨S_, .i32⟩
  | 72 => ⟨S128x4096, .i32⟩
  | 73 => ⟨S128x4096, .i32⟩
  | 74 => ⟨S128x4096, .i32⟩
  | 75 => ⟨S128x4096, .i32⟩
  | 76 => ⟨S128x4096, .i32⟩
  | 77 => ⟨S128x4096, .i32⟩
  | 78 => ⟨S128x4096, .i32⟩
  | 79 => ⟨S128x4096, .i32⟩
  | 80 => ⟨S_, .i32⟩
  | 81 => ⟨S128x4096, .i32⟩
  | 82 => ⟨S128x4096, .i32⟩
  | 83 => ⟨S128x4096, .i32⟩
  | 84 => ⟨S_, .i32⟩
  | 85 => ⟨S128x4096, .i32⟩
  | 86 => ⟨S128x4096, .i32⟩
  | 87 => ⟨S_, .i32⟩
  | 88 => ⟨S128x4096, .i32⟩
  | 89 => ⟨S128x4096, .i32⟩
  | 90 => ⟨S128x4096, .i32⟩
  | 91 => ⟨S128x4096, .i32⟩
  | 92 => ⟨S128x4096, .i32⟩
  | 93 => ⟨S_, .i32⟩
  | 94 => ⟨S128x4096, .i32⟩
  | 95 => ⟨S128x4096, .i32⟩
  | 96 => ⟨S_, .i32⟩
  | 97 => ⟨S128x4096, .i32⟩
  | 98 => ⟨S128x4096, .i32⟩
  | 99 => ⟨S128x4096, .i32⟩
  | 100 => ⟨S128x4096, .i32⟩
  | 101 => ⟨S128x4096, .i32⟩
  | 102 => ⟨S_, .i32⟩
  | 103 => ⟨S128x4096, .i32⟩
  | 104 => ⟨S128x4096, .i32⟩
  | 105 => ⟨S_, .i32⟩
  | 106 => ⟨S128x4096, .i32⟩
  | 107 => ⟨S128x4096, .i32⟩
  | 108 => ⟨S128x4096, .i32⟩
  | 109 => ⟨S128x4096, .i32⟩
  | 110 => ⟨S128x4096, .i32⟩
  | 111 => ⟨S_, .i32⟩
  | 112 => ⟨S128x4096, .i32⟩
  | 113 => ⟨S128x4096, .i32⟩
  | 114 => ⟨S_, .i32⟩
  | 115 => ⟨S128x4096, .i32⟩
  | 116 => ⟨S128x4096, .i32⟩
  | 117 => ⟨S128x4096, .i32⟩
  | 118 => ⟨S128x4096, .i32⟩
  | 119 => ⟨S128x4096, .i32⟩
  | 120 => ⟨S128x4096, .i32⟩
  | 121 => ⟨S128x4096, .i32⟩
  | 122 => ⟨S128x4096, .i32⟩
  | 123 => ⟨S_, .i32⟩
  | 124 => ⟨S128x4096, .i32⟩
  | 125 => ⟨S128x4096, .i32⟩
  | 126 => ⟨S128x4096, .i32⟩
  | 127 => ⟨S_, .i32⟩
  | _ => ⟨S128x4096, .i32⟩

abbrev hbmTy0_10 (i : Nat) : BufTy := match i % 128 with
  | 0 => ⟨S128x4096, .i32⟩
  | 1 => ⟨S128x4096, .i32⟩
  | 2 => ⟨S_, .i32⟩
  | 3 => ⟨S128x4096, .i32⟩
  | 4 => ⟨S128x4096, .i32⟩
  | 5 => ⟨S128x4096, .f32⟩
  | 6 => ⟨S_, .f32⟩
  | 7 => ⟨S128x4096, .f32⟩
  | 8 => ⟨S128x4096, .f32⟩
  | 9 => ⟨S1x1, .f32⟩
  | 10 => ⟨S128x4096, .f32⟩
  | 11 => ⟨S128x4096, .f32⟩
  | 12 => ⟨S128x4096, .f32⟩
  | 13 => ⟨S128x4096, .f32⟩
  | 14 => ⟨S128x4096, .f32⟩
  | 15 => ⟨S128x4096, .f32⟩
  | 16 => ⟨S128x4096, .f32⟩
  | 17 => ⟨S128x4096, .i1⟩
  | 18 => ⟨S128x4096, .i32⟩
  | _ => ⟨S128x4096, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S128x4096, .i32⟩

abbrev bufTy : (tb : Table) → Fin (tcTables nBuf tb) → BufTy
  | .hbm, ⟨i, _⟩ => hbmTy i
  | _, _ => ⟨S128x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_c_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_c_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_9 : Ref sig .tc := ⟨.hbm, 48, rfl⟩
abbrev main_v35 : Ref sig .tc := ⟨.hbm, 49, rfl⟩
abbrev main_v36 : Ref sig .tc := ⟨.hbm, 50, rfl⟩
abbrev main_c_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_11 : Ref sig .tc := ⟨.hbm, 57, rfl⟩
abbrev main_v42 : Ref sig .tc := ⟨.hbm, 58, rfl⟩
abbrev main_v43 : Ref sig .tc := ⟨.hbm, 59, rfl⟩
abbrev main_c_12 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_13 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_14 : Ref sig .tc := ⟨.hbm, 73, rfl⟩
abbrev main_v55 : Ref sig .tc := ⟨.hbm, 74, rfl⟩
abbrev main_v56 : Ref sig .tc := ⟨.hbm, 75, rfl⟩
abbrev main_c_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_16 : Ref sig .tc := ⟨.hbm, 82, rfl⟩
abbrev main_v62 : Ref sig .tc := ⟨.hbm, 83, rfl⟩
abbrev main_v63 : Ref sig .tc := ⟨.hbm, 84, rfl⟩
abbrev main_c_17 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_18 : Ref sig .tc := ⟨.hbm, 91, rfl⟩
abbrev main_v69 : Ref sig .tc := ⟨.hbm, 92, rfl⟩
abbrev main_v70 : Ref sig .tc := ⟨.hbm, 93, rfl⟩
abbrev main_c_19 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_20 : Ref sig .tc := ⟨.hbm, 100, rfl⟩
abbrev main_v76 : Ref sig .tc := ⟨.hbm, 101, rfl⟩
abbrev main_v77 : Ref sig .tc := ⟨.hbm, 102, rfl⟩
abbrev main_c_21 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_22 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_23 : Ref sig .tc := ⟨.hbm, 116, rfl⟩
abbrev main_v89 : Ref sig .tc := ⟨.hbm, 117, rfl⟩
abbrev main_v90 : Ref sig .tc := ⟨.hbm, 118, rfl⟩
abbrev main_c_24 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_25 : Ref sig .tc := ⟨.hbm, 125, rfl⟩
abbrev main_v96 : Ref sig .tc := ⟨.hbm, 126, rfl⟩
abbrev main_v97 : Ref sig .tc := ⟨.hbm, 127, rfl⟩
abbrev main_c_26 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c_27 : Ref sig .tc := ⟨.hbm, 134, rfl⟩
abbrev main_v103 : Ref sig .tc := ⟨.hbm, 135, rfl⟩
abbrev main_v104 : Ref sig .tc := ⟨.hbm, 136, rfl⟩
abbrev main_c_28 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_c_29 : Ref sig .tc := ⟨.hbm, 143, rfl⟩
abbrev main_v110 : Ref sig .tc := ⟨.hbm, 144, rfl⟩
abbrev main_v111 : Ref sig .tc := ⟨.hbm, 145, rfl⟩
abbrev main_c_30 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_c_31 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_c_32 : Ref sig .tc := ⟨.hbm, 159, rfl⟩
abbrev main_v123 : Ref sig .tc := ⟨.hbm, 160, rfl⟩
abbrev main_v124 : Ref sig .tc := ⟨.hbm, 161, rfl⟩
abbrev main_c_33 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_c_34 : Ref sig .tc := ⟨.hbm, 168, rfl⟩
abbrev main_v130 : Ref sig .tc := ⟨.hbm, 169, rfl⟩
abbrev main_v131 : Ref sig .tc := ⟨.hbm, 170, rfl⟩
abbrev main_c_35 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_c_36 : Ref sig .tc := ⟨.hbm, 177, rfl⟩
abbrev main_v137 : Ref sig .tc := ⟨.hbm, 178, rfl⟩
abbrev main_v138 : Ref sig .tc := ⟨.hbm, 179, rfl⟩
abbrev main_c_37 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_c_38 : Ref sig .tc := ⟨.hbm, 186, rfl⟩
abbrev main_v144 : Ref sig .tc := ⟨.hbm, 187, rfl⟩
abbrev main_v145 : Ref sig .tc := ⟨.hbm, 188, rfl⟩
abbrev main_c_39 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_c_40 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_c_41 : Ref sig .tc := ⟨.hbm, 202, rfl⟩
abbrev main_v157 : Ref sig .tc := ⟨.hbm, 203, rfl⟩
abbrev main_v158 : Ref sig .tc := ⟨.hbm, 204, rfl⟩
abbrev main_c_42 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_c_43 : Ref sig .tc := ⟨.hbm, 211, rfl⟩
abbrev main_v164 : Ref sig .tc := ⟨.hbm, 212, rfl⟩
abbrev main_v165 : Ref sig .tc := ⟨.hbm, 213, rfl⟩
abbrev main_c_44 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_c_45 : Ref sig .tc := ⟨.hbm, 220, rfl⟩
abbrev main_v171 : Ref sig .tc := ⟨.hbm, 221, rfl⟩
abbrev main_v172 : Ref sig .tc := ⟨.hbm, 222, rfl⟩
abbrev main_c_46 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_c_47 : Ref sig .tc := ⟨.hbm, 229, rfl⟩
abbrev main_v178 : Ref sig .tc := ⟨.hbm, 230, rfl⟩
abbrev main_v179 : Ref sig .tc := ⟨.hbm, 231, rfl⟩
abbrev main_c_48 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_c_49 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_c_50 : Ref sig .tc := ⟨.hbm, 251, rfl⟩
abbrev main_c_51 : Ref sig .tc := ⟨.hbm, 252, rfl⟩
abbrev main_v197 : Ref sig .tc := ⟨.hbm, 253, rfl⟩
abbrev main_c_52 : Ref sig .tc := ⟨.hbm, 254, rfl⟩
abbrev main_v198 : Ref sig .tc := ⟨.hbm, 255, rfl⟩
abbrev main_c_53 : Ref sig .tc := ⟨.hbm, 256, rfl⟩
abbrev main_v199 : Ref sig .tc := ⟨.hbm, 257, rfl⟩
abbrev main_c_54 : Ref sig .tc := ⟨.hbm, 258, rfl⟩
abbrev main_c_55 : Ref sig .tc := ⟨.hbm, 259, rfl⟩
abbrev main_v200 : Ref sig .tc := ⟨.hbm, 260, rfl⟩
abbrev main_c_56 : Ref sig .tc := ⟨.hbm, 261, rfl⟩
abbrev main_v201 : Ref sig .tc := ⟨.hbm, 262, rfl⟩
abbrev main_c_57 : Ref sig .tc := ⟨.hbm, 263, rfl⟩
abbrev main_c_58 : Ref sig .tc := ⟨.hbm, 264, rfl⟩
abbrev main_v202 : Ref sig .tc := ⟨.hbm, 265, rfl⟩
abbrev main_c_59 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_c_60 : Ref sig .tc := ⟨.hbm, 270, rfl⟩
abbrev main_v206 : Ref sig .tc := ⟨.hbm, 271, rfl⟩
abbrev main_c_61 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_c_62 : Ref sig .tc := ⟨.hbm, 281, rfl⟩
abbrev main_v215 : Ref sig .tc := ⟨.hbm, 282, rfl⟩
abbrev main_v216 : Ref sig .tc := ⟨.hbm, 283, rfl⟩
abbrev main_c_63 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_c_64 : Ref sig .tc := ⟨.hbm, 291, rfl⟩
abbrev main_v223 : Ref sig .tc := ⟨.hbm, 292, rfl⟩
abbrev main_v224 : Ref sig .tc := ⟨.hbm, 293, rfl⟩
abbrev main_c_65 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_c_66 : Ref sig .tc := ⟨.hbm, 300, rfl⟩
abbrev main_v230 : Ref sig .tc := ⟨.hbm, 301, rfl⟩
abbrev main_v231 : Ref sig .tc := ⟨.hbm, 302, rfl⟩
abbrev main_c_67 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_c_68 : Ref sig .tc := ⟨.hbm, 309, rfl⟩
abbrev main_v237 : Ref sig .tc := ⟨.hbm, 310, rfl⟩
abbrev main_v238 : Ref sig .tc := ⟨.hbm, 311, rfl⟩
abbrev main_c_69 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_c_70 : Ref sig .tc := ⟨.hbm, 318, rfl⟩
abbrev main_v244 : Ref sig .tc := ⟨.hbm, 319, rfl⟩
abbrev main_v245 : Ref sig .tc := ⟨.hbm, 320, rfl⟩
abbrev main_c_71 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_c_72 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_c_73 : Ref sig .tc := ⟨.hbm, 334, rfl⟩
abbrev main_v257 : Ref sig .tc := ⟨.hbm, 335, rfl⟩
abbrev main_v258 : Ref sig .tc := ⟨.hbm, 336, rfl⟩
abbrev main_c_74 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_v263 : Ref sig .tc := ⟨.hbm, 342, rfl⟩
abbrev main_c_75 : Ref sig .tc := ⟨.hbm, 343, rfl⟩
abbrev main_v264 : Ref sig .tc := ⟨.hbm, 344, rfl⟩
abbrev main_v265 : Ref sig .tc := ⟨.hbm, 345, rfl⟩
abbrev main_c_76 : Ref sig .tc := ⟨.hbm, 346, rfl⟩
abbrev main_v266 : Ref sig .tc := ⟨.hbm, 347, rfl⟩
abbrev main_v267 : Ref sig .tc := ⟨.hbm, 348, rfl⟩
abbrev main_v268 : Ref sig .tc := ⟨.hbm, 349, rfl⟩
abbrev main_v269 : Ref sig .tc := ⟨.hbm, 350, rfl⟩
abbrev main_v270 : Ref sig .tc := ⟨.hbm, 351, rfl⟩
abbrev main_c_77 : Ref sig .tc := ⟨.hbm, 352, rfl⟩
abbrev main_v271 : Ref sig .tc := ⟨.hbm, 353, rfl⟩
abbrev main_v272 : Ref sig .tc := ⟨.hbm, 354, rfl⟩
abbrev main_c_78 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_v276 : Ref sig .tc := ⟨.hbm, 359, rfl⟩
abbrev main_v277 : Ref sig .tc := ⟨.hbm, 360, rfl⟩
abbrev main_c_79 : Ref sig .tc := ⟨.hbm, 361, rfl⟩
abbrev main_v278 : Ref sig .tc := ⟨.hbm, 362, rfl⟩
abbrev main_v279 : Ref sig .tc := ⟨.hbm, 363, rfl⟩
abbrev main_c_80 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩
abbrev main_v286 : Ref sig .tc := ⟨.hbm, 371, rfl⟩
abbrev main_v287 : Ref sig .tc := ⟨.hbm, 372, rfl⟩
abbrev main_c_81 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_c_82 : Ref sig .tc := ⟨.hbm, 377, rfl⟩
abbrev main_v291 : Ref sig .tc := ⟨.hbm, 378, rfl⟩
abbrev main_v292 : Ref sig .tc := ⟨.hbm, 379, rfl⟩
abbrev main_c_83 : Ref sig .tc := ⟨.hbm, 380, rfl⟩
abbrev main_v293 : Ref sig .tc := ⟨.hbm, 381, rfl⟩
abbrev main_v294 : Ref sig .tc := ⟨.hbm, 382, rfl⟩
abbrev main_v295 : Ref sig .tc := ⟨.hbm, 383, rfl⟩
abbrev main_v296 : Ref sig .tc := ⟨.hbm, 384, rfl⟩
abbrev main_v297 : Ref sig .tc := ⟨.hbm, 385, rfl⟩
abbrev main_c_84 : Ref sig .tc := ⟨.hbm, 386, rfl⟩
abbrev main_v298 : Ref sig .tc := ⟨.hbm, 387, rfl⟩
abbrev main_v299 : Ref sig .tc := ⟨.hbm, 388, rfl⟩
abbrev main_c_85 : Ref sig .tc := ⟨.hbm, 389, rfl⟩
abbrev main_v300 : Ref sig .tc := ⟨.hbm, 390, rfl⟩
abbrev main_v301 : Ref sig .tc := ⟨.hbm, 391, rfl⟩
abbrev main_v302 : Ref sig .tc := ⟨.hbm, 392, rfl⟩
abbrev main_v303 : Ref sig .tc := ⟨.hbm, 393, rfl⟩
abbrev main_v304 : Ref sig .tc := ⟨.hbm, 394, rfl⟩
abbrev main_c_86 : Ref sig .tc := ⟨.hbm, 395, rfl⟩
abbrev main_v305 : Ref sig .tc := ⟨.hbm, 396, rfl⟩
abbrev main_v306 : Ref sig .tc := ⟨.hbm, 397, rfl⟩
abbrev main_c_87 : Ref sig .tc := ⟨.hbm, 398, rfl⟩
abbrev main_v307 : Ref sig .tc := ⟨.hbm, 399, rfl⟩
abbrev main_v308 : Ref sig .tc := ⟨.hbm, 400, rfl⟩
abbrev main_v309 : Ref sig .tc := ⟨.hbm, 401, rfl⟩
abbrev main_v310 : Ref sig .tc := ⟨.hbm, 402, rfl⟩
abbrev main_v311 : Ref sig .tc := ⟨.hbm, 403, rfl⟩
abbrev main_c_88 : Ref sig .tc := ⟨.hbm, 404, rfl⟩
abbrev main_v312 : Ref sig .tc := ⟨.hbm, 405, rfl⟩
abbrev main_v313 : Ref sig .tc := ⟨.hbm, 406, rfl⟩
abbrev main_c_89 : Ref sig .tc := ⟨.hbm, 407, rfl⟩
abbrev main_v314 : Ref sig .tc := ⟨.hbm, 408, rfl⟩
abbrev main_v315 : Ref sig .tc := ⟨.hbm, 409, rfl⟩
abbrev main_v316 : Ref sig .tc := ⟨.hbm, 410, rfl⟩
abbrev main_v317 : Ref sig .tc := ⟨.hbm, 411, rfl⟩
abbrev main_v318 : Ref sig .tc := ⟨.hbm, 412, rfl⟩
abbrev main_v319 : Ref sig .tc := ⟨.hbm, 413, rfl⟩
abbrev main_v320 : Ref sig .tc := ⟨.hbm, 414, rfl⟩
abbrev main_v321 : Ref sig .tc := ⟨.hbm, 415, rfl⟩
abbrev main_c_90 : Ref sig .tc := ⟨.hbm, 416, rfl⟩
abbrev main_v322 : Ref sig .tc := ⟨.hbm, 417, rfl⟩
abbrev main_v323 : Ref sig .tc := ⟨.hbm, 418, rfl⟩
abbrev main_v324 : Ref sig .tc := ⟨.hbm, 419, rfl⟩
abbrev main_c_91 : Ref sig .tc := ⟨.hbm, 420, rfl⟩
abbrev main_v325 : Ref sig .tc := ⟨.hbm, 421, rfl⟩
abbrev main_v326 : Ref sig .tc := ⟨.hbm, 422, rfl⟩
abbrev main_c_92 : Ref sig .tc := ⟨.hbm, 423, rfl⟩
abbrev main_v327 : Ref sig .tc := ⟨.hbm, 424, rfl⟩
abbrev main_v328 : Ref sig .tc := ⟨.hbm, 425, rfl⟩
abbrev main_v329 : Ref sig .tc := ⟨.hbm, 426, rfl⟩
abbrev main_v330 : Ref sig .tc := ⟨.hbm, 427, rfl⟩
abbrev main_v331 : Ref sig .tc := ⟨.hbm, 428, rfl⟩
abbrev main_c_93 : Ref sig .tc := ⟨.hbm, 429, rfl⟩
abbrev main_v332 : Ref sig .tc := ⟨.hbm, 430, rfl⟩
abbrev main_v333 : Ref sig .tc := ⟨.hbm, 431, rfl⟩
abbrev main_c_94 : Ref sig .tc := ⟨.hbm, 432, rfl⟩
abbrev main_v334 : Ref sig .tc := ⟨.hbm, 433, rfl⟩
abbrev main_v335 : Ref sig .tc := ⟨.hbm, 434, rfl⟩
abbrev main_v336 : Ref sig .tc := ⟨.hbm, 435, rfl⟩
abbrev main_v337 : Ref sig .tc := ⟨.hbm, 436, rfl⟩
abbrev main_v338 : Ref sig .tc := ⟨.hbm, 437, rfl⟩
abbrev main_c_95 : Ref sig .tc := ⟨.hbm, 438, rfl⟩
abbrev main_v339 : Ref sig .tc := ⟨.hbm, 439, rfl⟩
abbrev main_v340 : Ref sig .tc := ⟨.hbm, 440, rfl⟩
abbrev main_c_96 : Ref sig .tc := ⟨.hbm, 441, rfl⟩
abbrev main_v341 : Ref sig .tc := ⟨.hbm, 442, rfl⟩
abbrev main_v342 : Ref sig .tc := ⟨.hbm, 443, rfl⟩
abbrev main_v343 : Ref sig .tc := ⟨.hbm, 444, rfl⟩
abbrev main_v344 : Ref sig .tc := ⟨.hbm, 445, rfl⟩
abbrev main_v345 : Ref sig .tc := ⟨.hbm, 446, rfl⟩
abbrev main_c_97 : Ref sig .tc := ⟨.hbm, 447, rfl⟩
abbrev main_v346 : Ref sig .tc := ⟨.hbm, 448, rfl⟩
abbrev main_v347 : Ref sig .tc := ⟨.hbm, 449, rfl⟩
abbrev main_c_98 : Ref sig .tc := ⟨.hbm, 450, rfl⟩
abbrev main_v348 : Ref sig .tc := ⟨.hbm, 451, rfl⟩
abbrev main_v349 : Ref sig .tc := ⟨.hbm, 452, rfl⟩
abbrev main_v350 : Ref sig .tc := ⟨.hbm, 453, rfl⟩
abbrev main_v351 : Ref sig .tc := ⟨.hbm, 454, rfl⟩
abbrev main_v352 : Ref sig .tc := ⟨.hbm, 455, rfl⟩
abbrev main_v353 : Ref sig .tc := ⟨.hbm, 456, rfl⟩
abbrev main_v354 : Ref sig .tc := ⟨.hbm, 457, rfl⟩
abbrev main_v355 : Ref sig .tc := ⟨.hbm, 458, rfl⟩
abbrev main_c_99 : Ref sig .tc := ⟨.hbm, 459, rfl⟩
abbrev main_v356 : Ref sig .tc := ⟨.hbm, 460, rfl⟩
abbrev main_v357 : Ref sig .tc := ⟨.hbm, 461, rfl⟩
abbrev main_v358 : Ref sig .tc := ⟨.hbm, 462, rfl⟩
abbrev main_c_100 : Ref sig .tc := ⟨.hbm, 463, rfl⟩
abbrev main_v359 : Ref sig .tc := ⟨.hbm, 464, rfl⟩
abbrev main_v360 : Ref sig .tc := ⟨.hbm, 465, rfl⟩
abbrev main_c_101 : Ref sig .tc := ⟨.hbm, 466, rfl⟩
abbrev main_v361 : Ref sig .tc := ⟨.hbm, 467, rfl⟩
abbrev main_v362 : Ref sig .tc := ⟨.hbm, 468, rfl⟩
abbrev main_v363 : Ref sig .tc := ⟨.hbm, 469, rfl⟩
abbrev main_v364 : Ref sig .tc := ⟨.hbm, 470, rfl⟩
abbrev main_v365 : Ref sig .tc := ⟨.hbm, 471, rfl⟩
abbrev main_c_102 : Ref sig .tc := ⟨.hbm, 472, rfl⟩
abbrev main_v366 : Ref sig .tc := ⟨.hbm, 473, rfl⟩
abbrev main_v367 : Ref sig .tc := ⟨.hbm, 474, rfl⟩
abbrev main_c_103 : Ref sig .tc := ⟨.hbm, 475, rfl⟩
abbrev main_v368 : Ref sig .tc := ⟨.hbm, 476, rfl⟩
abbrev main_v369 : Ref sig .tc := ⟨.hbm, 477, rfl⟩
abbrev main_v370 : Ref sig .tc := ⟨.hbm, 478, rfl⟩
abbrev main_v371 : Ref sig .tc := ⟨.hbm, 479, rfl⟩
abbrev main_v372 : Ref sig .tc := ⟨.hbm, 480, rfl⟩
abbrev main_c_104 : Ref sig .tc := ⟨.hbm, 481, rfl⟩
abbrev main_v373 : Ref sig .tc := ⟨.hbm, 482, rfl⟩
abbrev main_v374 : Ref sig .tc := ⟨.hbm, 483, rfl⟩
abbrev main_c_105 : Ref sig .tc := ⟨.hbm, 484, rfl⟩
abbrev main_v375 : Ref sig .tc := ⟨.hbm, 485, rfl⟩
abbrev main_v376 : Ref sig .tc := ⟨.hbm, 486, rfl⟩
abbrev main_v377 : Ref sig .tc := ⟨.hbm, 487, rfl⟩
abbrev main_v378 : Ref sig .tc := ⟨.hbm, 488, rfl⟩
abbrev main_v379 : Ref sig .tc := ⟨.hbm, 489, rfl⟩
abbrev main_c_106 : Ref sig .tc := ⟨.hbm, 490, rfl⟩
abbrev main_v380 : Ref sig .tc := ⟨.hbm, 491, rfl⟩
abbrev main_v381 : Ref sig .tc := ⟨.hbm, 492, rfl⟩
abbrev main_c_107 : Ref sig .tc := ⟨.hbm, 493, rfl⟩
abbrev main_v382 : Ref sig .tc := ⟨.hbm, 494, rfl⟩
abbrev main_v383 : Ref sig .tc := ⟨.hbm, 495, rfl⟩
abbrev main_v384 : Ref sig .tc := ⟨.hbm, 496, rfl⟩
abbrev main_v385 : Ref sig .tc := ⟨.hbm, 497, rfl⟩
abbrev main_v386 : Ref sig .tc := ⟨.hbm, 498, rfl⟩
abbrev main_v387 : Ref sig .tc := ⟨.hbm, 499, rfl⟩
abbrev main_v388 : Ref sig .tc := ⟨.hbm, 500, rfl⟩
abbrev main_v389 : Ref sig .tc := ⟨.hbm, 501, rfl⟩
abbrev main_c_108 : Ref sig .tc := ⟨.hbm, 502, rfl⟩
abbrev main_v390 : Ref sig .tc := ⟨.hbm, 503, rfl⟩
abbrev main_v391 : Ref sig .tc := ⟨.hbm, 504, rfl⟩
abbrev main_v392 : Ref sig .tc := ⟨.hbm, 505, rfl⟩
abbrev main_v393 : Ref sig .tc := ⟨.hbm, 506, rfl⟩
abbrev main_v394 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_v398 : Ref sig .tc := ⟨.hbm, 511, rfl⟩
abbrev main_c_109 : Ref sig .tc := ⟨.hbm, 512, rfl⟩
abbrev main_v399 : Ref sig .tc := ⟨.hbm, 513, rfl⟩
abbrev main_c_110 : Ref sig .tc := ⟨.hbm, 514, rfl⟩
abbrev main_v400 : Ref sig .tc := ⟨.hbm, 515, rfl⟩
abbrev main_v401 : Ref sig .tc := ⟨.hbm, 516, rfl⟩
abbrev main_v402 : Ref sig .tc := ⟨.hbm, 517, rfl⟩
abbrev main_v403 : Ref sig .tc := ⟨.hbm, 518, rfl⟩
abbrev main_c_111 : Ref sig .tc := ⟨.hbm, 519, rfl⟩
abbrev main_v404 : Ref sig .tc := ⟨.hbm, 520, rfl⟩
abbrev main_v405 : Ref sig .tc := ⟨.hbm, 521, rfl⟩
abbrev main_v406 : Ref sig .tc := ⟨.hbm, 522, rfl⟩
abbrev main_v407 : Ref sig .tc := ⟨.hbm, 523, rfl⟩
abbrev main_v408 : Ref sig .tc := ⟨.hbm, 524, rfl⟩
abbrev main_v409 : Ref sig .tc := ⟨.hbm, 525, rfl⟩
abbrev main_v410 : Ref sig .tc := ⟨.hbm, 526, rfl⟩
abbrev main_v411 : Ref sig .tc := ⟨.hbm, 527, rfl⟩
abbrev main_c_112 : Ref sig .tc := ⟨.hbm, 528, rfl⟩
abbrev main_v412 : Ref sig .tc := ⟨.hbm, 529, rfl⟩
abbrev main_v413 : Ref sig .tc := ⟨.hbm, 530, rfl⟩
abbrev main_c_113 : Ref sig .tc := ⟨.hbm, 531, rfl⟩
abbrev main_v414 : Ref sig .tc := ⟨.hbm, 532, rfl⟩
abbrev main_v415 : Ref sig .tc := ⟨.hbm, 533, rfl⟩
abbrev main_v416 : Ref sig .tc := ⟨.hbm, 534, rfl⟩
abbrev main_v417 : Ref sig .tc := ⟨.hbm, 535, rfl⟩
abbrev main_v418 : Ref sig .tc := ⟨.hbm, 536, rfl⟩
abbrev main_v419 : Ref sig .tc := ⟨.hbm, 537, rfl⟩
abbrev main_c_114 : Ref sig .tc := ⟨.hbm, 538, rfl⟩
abbrev main_v420 : Ref sig .tc := ⟨.hbm, 539, rfl⟩
abbrev main_v421 : Ref sig .tc := ⟨.hbm, 540, rfl⟩
abbrev main_c_115 : Ref sig .tc := ⟨.hbm, 541, rfl⟩
abbrev main_v422 : Ref sig .tc := ⟨.hbm, 542, rfl⟩
abbrev main_v423 : Ref sig .tc := ⟨.hbm, 543, rfl⟩
abbrev main_v424 : Ref sig .tc := ⟨.hbm, 544, rfl⟩
abbrev main_v425 : Ref sig .tc := ⟨.hbm, 545, rfl⟩
abbrev main_v426 : Ref sig .tc := ⟨.hbm, 546, rfl⟩
abbrev main_c_116 : Ref sig .tc := ⟨.hbm, 547, rfl⟩
abbrev main_v427 : Ref sig .tc := ⟨.hbm, 548, rfl⟩
abbrev main_v428 : Ref sig .tc := ⟨.hbm, 549, rfl⟩
abbrev main_c_117 : Ref sig .tc := ⟨.hbm, 550, rfl⟩
abbrev main_v429 : Ref sig .tc := ⟨.hbm, 551, rfl⟩
abbrev main_v430 : Ref sig .tc := ⟨.hbm, 552, rfl⟩
abbrev main_v431 : Ref sig .tc := ⟨.hbm, 553, rfl⟩
abbrev main_v432 : Ref sig .tc := ⟨.hbm, 554, rfl⟩
abbrev main_v433 : Ref sig .tc := ⟨.hbm, 555, rfl⟩
abbrev main_c_118 : Ref sig .tc := ⟨.hbm, 556, rfl⟩
abbrev main_v434 : Ref sig .tc := ⟨.hbm, 557, rfl⟩
abbrev main_v435 : Ref sig .tc := ⟨.hbm, 558, rfl⟩
abbrev main_c_119 : Ref sig .tc := ⟨.hbm, 559, rfl⟩
abbrev main_v436 : Ref sig .tc := ⟨.hbm, 560, rfl⟩
abbrev main_v437 : Ref sig .tc := ⟨.hbm, 561, rfl⟩
abbrev main_v438 : Ref sig .tc := ⟨.hbm, 562, rfl⟩
abbrev main_v439 : Ref sig .tc := ⟨.hbm, 563, rfl⟩
abbrev main_v440 : Ref sig .tc := ⟨.hbm, 564, rfl⟩
abbrev main_c_120 : Ref sig .tc := ⟨.hbm, 565, rfl⟩
abbrev main_v441 : Ref sig .tc := ⟨.hbm, 566, rfl⟩
abbrev main_v442 : Ref sig .tc := ⟨.hbm, 567, rfl⟩
abbrev main_c_121 : Ref sig .tc := ⟨.hbm, 568, rfl⟩
abbrev main_v443 : Ref sig .tc := ⟨.hbm, 569, rfl⟩
abbrev main_v444 : Ref sig .tc := ⟨.hbm, 570, rfl⟩
abbrev main_v445 : Ref sig .tc := ⟨.hbm, 571, rfl⟩
abbrev main_v446 : Ref sig .tc := ⟨.hbm, 572, rfl⟩
abbrev main_v447 : Ref sig .tc := ⟨.hbm, 573, rfl⟩
abbrev main_v448 : Ref sig .tc := ⟨.hbm, 574, rfl⟩
abbrev main_v449 : Ref sig .tc := ⟨.hbm, 575, rfl⟩
abbrev main_v450 : Ref sig .tc := ⟨.hbm, 576, rfl⟩
abbrev main_c_122 : Ref sig .tc := ⟨.hbm, 577, rfl⟩
abbrev main_v451 : Ref sig .tc := ⟨.hbm, 578, rfl⟩
abbrev main_v452 : Ref sig .tc := ⟨.hbm, 579, rfl⟩
abbrev main_v453 : Ref sig .tc := ⟨.hbm, 580, rfl⟩
abbrev main_c_123 : Ref sig .tc := ⟨.hbm, 581, rfl⟩
abbrev main_v454 : Ref sig .tc := ⟨.hbm, 582, rfl⟩
abbrev main_v455 : Ref sig .tc := ⟨.hbm, 583, rfl⟩
abbrev main_c_124 : Ref sig .tc := ⟨.hbm, 584, rfl⟩
abbrev main_v456 : Ref sig .tc := ⟨.hbm, 585, rfl⟩
abbrev main_v457 : Ref sig .tc := ⟨.hbm, 586, rfl⟩
abbrev main_v458 : Ref sig .tc := ⟨.hbm, 587, rfl⟩
abbrev main_v459 : Ref sig .tc := ⟨.hbm, 588, rfl⟩
abbrev main_v460 : Ref sig .tc := ⟨.hbm, 589, rfl⟩
abbrev main_c_125 : Ref sig .tc := ⟨.hbm, 590, rfl⟩
abbrev main_v461 : Ref sig .tc := ⟨.hbm, 591, rfl⟩
abbrev main_v462 : Ref sig .tc := ⟨.hbm, 592, rfl⟩
abbrev main_c_126 : Ref sig .tc := ⟨.hbm, 593, rfl⟩
abbrev main_v463 : Ref sig .tc := ⟨.hbm, 594, rfl⟩
abbrev main_v464 : Ref sig .tc := ⟨.hbm, 595, rfl⟩
abbrev main_v465 : Ref sig .tc := ⟨.hbm, 596, rfl⟩
abbrev main_v466 : Ref sig .tc := ⟨.hbm, 597, rfl⟩
abbrev main_v467 : Ref sig .tc := ⟨.hbm, 598, rfl⟩
abbrev main_c_127 : Ref sig .tc := ⟨.hbm, 599, rfl⟩
abbrev main_v468 : Ref sig .tc := ⟨.hbm, 600, rfl⟩
abbrev main_v469 : Ref sig .tc := ⟨.hbm, 601, rfl⟩
abbrev main_c_128 : Ref sig .tc := ⟨.hbm, 602, rfl⟩
abbrev main_v470 : Ref sig .tc := ⟨.hbm, 603, rfl⟩
abbrev main_v471 : Ref sig .tc := ⟨.hbm, 604, rfl⟩
abbrev main_v472 : Ref sig .tc := ⟨.hbm, 605, rfl⟩
abbrev main_v473 : Ref sig .tc := ⟨.hbm, 606, rfl⟩
abbrev main_v474 : Ref sig .tc := ⟨.hbm, 607, rfl⟩
abbrev main_c_129 : Ref sig .tc := ⟨.hbm, 608, rfl⟩
abbrev main_v475 : Ref sig .tc := ⟨.hbm, 609, rfl⟩
abbrev main_v476 : Ref sig .tc := ⟨.hbm, 610, rfl⟩
abbrev main_c_130 : Ref sig .tc := ⟨.hbm, 611, rfl⟩
abbrev main_v477 : Ref sig .tc := ⟨.hbm, 612, rfl⟩
abbrev main_v478 : Ref sig .tc := ⟨.hbm, 613, rfl⟩
abbrev main_v479 : Ref sig .tc := ⟨.hbm, 614, rfl⟩
abbrev main_v480 : Ref sig .tc := ⟨.hbm, 615, rfl⟩
abbrev main_v481 : Ref sig .tc := ⟨.hbm, 616, rfl⟩
abbrev main_v482 : Ref sig .tc := ⟨.hbm, 617, rfl⟩
abbrev main_v483 : Ref sig .tc := ⟨.hbm, 618, rfl⟩
abbrev main_v484 : Ref sig .tc := ⟨.hbm, 619, rfl⟩
abbrev main_c_131 : Ref sig .tc := ⟨.hbm, 620, rfl⟩
abbrev main_v485 : Ref sig .tc := ⟨.hbm, 621, rfl⟩
abbrev main_v486 : Ref sig .tc := ⟨.hbm, 622, rfl⟩
abbrev main_v487 : Ref sig .tc := ⟨.hbm, 623, rfl⟩
abbrev main_c_132 : Ref sig .tc := ⟨.hbm, 624, rfl⟩
abbrev main_v488 : Ref sig .tc := ⟨.hbm, 625, rfl⟩
abbrev main_v489 : Ref sig .tc := ⟨.hbm, 626, rfl⟩
abbrev main_c_133 : Ref sig .tc := ⟨.hbm, 627, rfl⟩
abbrev main_v490 : Ref sig .tc := ⟨.hbm, 628, rfl⟩
abbrev main_v491 : Ref sig .tc := ⟨.hbm, 629, rfl⟩
abbrev main_v492 : Ref sig .tc := ⟨.hbm, 630, rfl⟩
abbrev main_v493 : Ref sig .tc := ⟨.hbm, 631, rfl⟩
abbrev main_v494 : Ref sig .tc := ⟨.hbm, 632, rfl⟩
abbrev main_c_134 : Ref sig .tc := ⟨.hbm, 633, rfl⟩
abbrev main_v495 : Ref sig .tc := ⟨.hbm, 634, rfl⟩
abbrev main_v496 : Ref sig .tc := ⟨.hbm, 635, rfl⟩
abbrev main_c_135 : Ref sig .tc := ⟨.hbm, 636, rfl⟩
abbrev main_v497 : Ref sig .tc := ⟨.hbm, 637, rfl⟩
abbrev main_v498 : Ref sig .tc := ⟨.hbm, 638, rfl⟩
abbrev main_v499 : Ref sig .tc := ⟨.hbm, 639, rfl⟩
abbrev main_v500 : Ref sig .tc := ⟨.hbm, 640, rfl⟩
abbrev main_v501 : Ref sig .tc := ⟨.hbm, 641, rfl⟩
abbrev main_c_136 : Ref sig .tc := ⟨.hbm, 642, rfl⟩
abbrev main_v502 : Ref sig .tc := ⟨.hbm, 643, rfl⟩
abbrev main_v503 : Ref sig .tc := ⟨.hbm, 644, rfl⟩
abbrev main_c_137 : Ref sig .tc := ⟨.hbm, 645, rfl⟩
abbrev main_v504 : Ref sig .tc := ⟨.hbm, 646, rfl⟩
abbrev main_v505 : Ref sig .tc := ⟨.hbm, 647, rfl⟩
abbrev main_v506 : Ref sig .tc := ⟨.hbm, 648, rfl⟩
abbrev main_v507 : Ref sig .tc := ⟨.hbm, 649, rfl⟩
abbrev main_v508 : Ref sig .tc := ⟨.hbm, 650, rfl⟩
abbrev main_c_138 : Ref sig .tc := ⟨.hbm, 651, rfl⟩
abbrev main_v509 : Ref sig .tc := ⟨.hbm, 652, rfl⟩
abbrev main_v510 : Ref sig .tc := ⟨.hbm, 653, rfl⟩
abbrev main_c_139 : Ref sig .tc := ⟨.hbm, 654, rfl⟩
abbrev main_v511 : Ref sig .tc := ⟨.hbm, 655, rfl⟩
abbrev main_v512 : Ref sig .tc := ⟨.hbm, 656, rfl⟩
abbrev main_v513 : Ref sig .tc := ⟨.hbm, 657, rfl⟩
abbrev main_v514 : Ref sig .tc := ⟨.hbm, 658, rfl⟩
abbrev main_v515 : Ref sig .tc := ⟨.hbm, 659, rfl⟩
abbrev main_v516 : Ref sig .tc := ⟨.hbm, 660, rfl⟩
abbrev main_v517 : Ref sig .tc := ⟨.hbm, 661, rfl⟩
abbrev main_v518 : Ref sig .tc := ⟨.hbm, 662, rfl⟩
abbrev main_c_140 : Ref sig .tc := ⟨.hbm, 663, rfl⟩
abbrev main_v519 : Ref sig .tc := ⟨.hbm, 664, rfl⟩
abbrev main_v520 : Ref sig .tc := ⟨.hbm, 665, rfl⟩
abbrev main_v521 : Ref sig .tc := ⟨.hbm, 666, rfl⟩
abbrev main_c_141 : Ref sig .tc := ⟨.hbm, 667, rfl⟩
abbrev main_v522 : Ref sig .tc := ⟨.hbm, 668, rfl⟩
abbrev main_v523 : Ref sig .tc := ⟨.hbm, 669, rfl⟩
abbrev main_c_142 : Ref sig .tc := ⟨.hbm, 670, rfl⟩
abbrev main_v524 : Ref sig .tc := ⟨.hbm, 671, rfl⟩
abbrev main_v525 : Ref sig .tc := ⟨.hbm, 672, rfl⟩
abbrev main_v526 : Ref sig .tc := ⟨.hbm, 673, rfl⟩
abbrev main_v527 : Ref sig .tc := ⟨.hbm, 674, rfl⟩
abbrev main_v528 : Ref sig .tc := ⟨.hbm, 675, rfl⟩
abbrev main_c_143 : Ref sig .tc := ⟨.hbm, 676, rfl⟩
abbrev main_v529 : Ref sig .tc := ⟨.hbm, 677, rfl⟩
abbrev main_v530 : Ref sig .tc := ⟨.hbm, 678, rfl⟩
abbrev main_c_144 : Ref sig .tc := ⟨.hbm, 679, rfl⟩
abbrev main_v531 : Ref sig .tc := ⟨.hbm, 680, rfl⟩
abbrev main_v532 : Ref sig .tc := ⟨.hbm, 681, rfl⟩
abbrev main_v533 : Ref sig .tc := ⟨.hbm, 682, rfl⟩
abbrev main_v534 : Ref sig .tc := ⟨.hbm, 683, rfl⟩
abbrev main_v535 : Ref sig .tc := ⟨.hbm, 684, rfl⟩
abbrev main_c_145 : Ref sig .tc := ⟨.hbm, 685, rfl⟩
abbrev main_v536 : Ref sig .tc := ⟨.hbm, 686, rfl⟩
abbrev main_v537 : Ref sig .tc := ⟨.hbm, 687, rfl⟩
abbrev main_c_146 : Ref sig .tc := ⟨.hbm, 688, rfl⟩
abbrev main_v538 : Ref sig .tc := ⟨.hbm, 689, rfl⟩
abbrev main_v539 : Ref sig .tc := ⟨.hbm, 690, rfl⟩
abbrev main_v540 : Ref sig .tc := ⟨.hbm, 691, rfl⟩
abbrev main_v541 : Ref sig .tc := ⟨.hbm, 692, rfl⟩
abbrev main_v542 : Ref sig .tc := ⟨.hbm, 693, rfl⟩
abbrev main_c_147 : Ref sig .tc := ⟨.hbm, 694, rfl⟩
abbrev main_v543 : Ref sig .tc := ⟨.hbm, 695, rfl⟩
abbrev main_v544 : Ref sig .tc := ⟨.hbm, 696, rfl⟩
abbrev main_c_148 : Ref sig .tc := ⟨.hbm, 697, rfl⟩
abbrev main_v545 : Ref sig .tc := ⟨.hbm, 698, rfl⟩
abbrev main_v546 : Ref sig .tc := ⟨.hbm, 699, rfl⟩
abbrev main_v547 : Ref sig .tc := ⟨.hbm, 700, rfl⟩
abbrev main_v548 : Ref sig .tc := ⟨.hbm, 701, rfl⟩
abbrev main_v549 : Ref sig .tc := ⟨.hbm, 702, rfl⟩
abbrev main_v550 : Ref sig .tc := ⟨.hbm, 703, rfl⟩
abbrev main_v551 : Ref sig .tc := ⟨.hbm, 704, rfl⟩
abbrev main_v552 : Ref sig .tc := ⟨.hbm, 705, rfl⟩
abbrev main_c_149 : Ref sig .tc := ⟨.hbm, 706, rfl⟩
abbrev main_v553 : Ref sig .tc := ⟨.hbm, 707, rfl⟩
abbrev main_v554 : Ref sig .tc := ⟨.hbm, 708, rfl⟩
abbrev main_v555 : Ref sig .tc := ⟨.hbm, 709, rfl⟩
abbrev main_c_150 : Ref sig .tc := ⟨.hbm, 710, rfl⟩
abbrev main_v556 : Ref sig .tc := ⟨.hbm, 711, rfl⟩
abbrev main_v557 : Ref sig .tc := ⟨.hbm, 712, rfl⟩
abbrev main_c_151 : Ref sig .tc := ⟨.hbm, 713, rfl⟩
abbrev main_v558 : Ref sig .tc := ⟨.hbm, 714, rfl⟩
abbrev main_v559 : Ref sig .tc := ⟨.hbm, 715, rfl⟩
abbrev main_v560 : Ref sig .tc := ⟨.hbm, 716, rfl⟩
abbrev main_v561 : Ref sig .tc := ⟨.hbm, 717, rfl⟩
abbrev main_v562 : Ref sig .tc := ⟨.hbm, 718, rfl⟩
abbrev main_c_152 : Ref sig .tc := ⟨.hbm, 719, rfl⟩
abbrev main_v563 : Ref sig .tc := ⟨.hbm, 720, rfl⟩
abbrev main_v564 : Ref sig .tc := ⟨.hbm, 721, rfl⟩
abbrev main_c_153 : Ref sig .tc := ⟨.hbm, 722, rfl⟩
abbrev main_v565 : Ref sig .tc := ⟨.hbm, 723, rfl⟩
abbrev main_v566 : Ref sig .tc := ⟨.hbm, 724, rfl⟩
abbrev main_v567 : Ref sig .tc := ⟨.hbm, 725, rfl⟩
abbrev main_v568 : Ref sig .tc := ⟨.hbm, 726, rfl⟩
abbrev main_v569 : Ref sig .tc := ⟨.hbm, 727, rfl⟩
abbrev main_c_154 : Ref sig .tc := ⟨.hbm, 728, rfl⟩
abbrev main_v570 : Ref sig .tc := ⟨.hbm, 729, rfl⟩
abbrev main_v571 : Ref sig .tc := ⟨.hbm, 730, rfl⟩
abbrev main_c_155 : Ref sig .tc := ⟨.hbm, 731, rfl⟩
abbrev main_v572 : Ref sig .tc := ⟨.hbm, 732, rfl⟩
abbrev main_v573 : Ref sig .tc := ⟨.hbm, 733, rfl⟩
abbrev main_v574 : Ref sig .tc := ⟨.hbm, 734, rfl⟩
abbrev main_v575 : Ref sig .tc := ⟨.hbm, 735, rfl⟩
abbrev main_v576 : Ref sig .tc := ⟨.hbm, 736, rfl⟩
abbrev main_c_156 : Ref sig .tc := ⟨.hbm, 737, rfl⟩
abbrev main_v577 : Ref sig .tc := ⟨.hbm, 738, rfl⟩
abbrev main_v578 : Ref sig .tc := ⟨.hbm, 739, rfl⟩
abbrev main_c_157 : Ref sig .tc := ⟨.hbm, 740, rfl⟩
abbrev main_v579 : Ref sig .tc := ⟨.hbm, 741, rfl⟩
abbrev main_v580 : Ref sig .tc := ⟨.hbm, 742, rfl⟩
abbrev main_v581 : Ref sig .tc := ⟨.hbm, 743, rfl⟩
abbrev main_v582 : Ref sig .tc := ⟨.hbm, 744, rfl⟩
abbrev main_v583 : Ref sig .tc := ⟨.hbm, 745, rfl⟩
abbrev main_v584 : Ref sig .tc := ⟨.hbm, 746, rfl⟩
abbrev main_v585 : Ref sig .tc := ⟨.hbm, 747, rfl⟩
abbrev main_v586 : Ref sig .tc := ⟨.hbm, 748, rfl⟩
abbrev main_c_158 : Ref sig .tc := ⟨.hbm, 749, rfl⟩
abbrev main_v587 : Ref sig .tc := ⟨.hbm, 750, rfl⟩
abbrev main_v588 : Ref sig .tc := ⟨.hbm, 751, rfl⟩
abbrev main_v589 : Ref sig .tc := ⟨.hbm, 752, rfl⟩
abbrev main_c_159 : Ref sig .tc := ⟨.hbm, 753, rfl⟩
abbrev main_v590 : Ref sig .tc := ⟨.hbm, 754, rfl⟩
abbrev main_c_160 : Ref sig .tc := ⟨.hbm, 755, rfl⟩
abbrev main_v591 : Ref sig .tc := ⟨.hbm, 756, rfl⟩
abbrev main_v592 : Ref sig .tc := ⟨.hbm, 757, rfl⟩
abbrev main_v593 : Ref sig .tc := ⟨.hbm, 758, rfl⟩
abbrev main_v594 : Ref sig .tc := ⟨.hbm, 759, rfl⟩
abbrev main_c_161 : Ref sig .tc := ⟨.hbm, 760, rfl⟩
abbrev main_v595 : Ref sig .tc := ⟨.hbm, 761, rfl⟩
abbrev main_v596 : Ref sig .tc := ⟨.hbm, 762, rfl⟩
abbrev main_v597 : Ref sig .tc := ⟨.hbm, 763, rfl⟩
abbrev main_v598 : Ref sig .tc := ⟨.hbm, 764, rfl⟩
abbrev main_v599 : Ref sig .tc := ⟨.hbm, 765, rfl⟩
abbrev main_v600 : Ref sig .tc := ⟨.hbm, 766, rfl⟩
abbrev main_v601 : Ref sig .tc := ⟨.hbm, 767, rfl⟩
abbrev main_v602 : Ref sig .tc := ⟨.hbm, 768, rfl⟩
abbrev main_c_162 : Ref sig .tc := ⟨.hbm, 769, rfl⟩
abbrev main_v603 : Ref sig .tc := ⟨.hbm, 770, rfl⟩
abbrev main_v604 : Ref sig .tc := ⟨.hbm, 771, rfl⟩
abbrev main_c_163 : Ref sig .tc := ⟨.hbm, 772, rfl⟩
abbrev main_v605 : Ref sig .tc := ⟨.hbm, 773, rfl⟩
abbrev main_v606 : Ref sig .tc := ⟨.hbm, 774, rfl⟩
abbrev main_v607 : Ref sig .tc := ⟨.hbm, 775, rfl⟩
abbrev main_v608 : Ref sig .tc := ⟨.hbm, 776, rfl⟩
abbrev main_v609 : Ref sig .tc := ⟨.hbm, 777, rfl⟩
abbrev main_v610 : Ref sig .tc := ⟨.hbm, 778, rfl⟩
abbrev main_c_164 : Ref sig .tc := ⟨.hbm, 779, rfl⟩
abbrev main_v611 : Ref sig .tc := ⟨.hbm, 780, rfl⟩
abbrev main_v612 : Ref sig .tc := ⟨.hbm, 781, rfl⟩
abbrev main_c_165 : Ref sig .tc := ⟨.hbm, 782, rfl⟩
abbrev main_v613 : Ref sig .tc := ⟨.hbm, 783, rfl⟩
abbrev main_v614 : Ref sig .tc := ⟨.hbm, 784, rfl⟩
abbrev main_v615 : Ref sig .tc := ⟨.hbm, 785, rfl⟩
abbrev main_v616 : Ref sig .tc := ⟨.hbm, 786, rfl⟩
abbrev main_v617 : Ref sig .tc := ⟨.hbm, 787, rfl⟩
abbrev main_c_166 : Ref sig .tc := ⟨.hbm, 788, rfl⟩
abbrev main_v618 : Ref sig .tc := ⟨.hbm, 789, rfl⟩
abbrev main_v619 : Ref sig .tc := ⟨.hbm, 790, rfl⟩
abbrev main_c_167 : Ref sig .tc := ⟨.hbm, 791, rfl⟩
abbrev main_v620 : Ref sig .tc := ⟨.hbm, 792, rfl⟩
abbrev main_v621 : Ref sig .tc := ⟨.hbm, 793, rfl⟩
abbrev main_v622 : Ref sig .tc := ⟨.hbm, 794, rfl⟩
abbrev main_v623 : Ref sig .tc := ⟨.hbm, 795, rfl⟩
abbrev main_v624 : Ref sig .tc := ⟨.hbm, 796, rfl⟩
abbrev main_c_168 : Ref sig .tc := ⟨.hbm, 797, rfl⟩
abbrev main_v625 : Ref sig .tc := ⟨.hbm, 798, rfl⟩
abbrev main_v626 : Ref sig .tc := ⟨.hbm, 799, rfl⟩
abbrev main_c_169 : Ref sig .tc := ⟨.hbm, 800, rfl⟩
abbrev main_v627 : Ref sig .tc := ⟨.hbm, 801, rfl⟩
abbrev main_v628 : Ref sig .tc := ⟨.hbm, 802, rfl⟩
abbrev main_v629 : Ref sig .tc := ⟨.hbm, 803, rfl⟩
abbrev main_v630 : Ref sig .tc := ⟨.hbm, 804, rfl⟩
abbrev main_v631 : Ref sig .tc := ⟨.hbm, 805, rfl⟩
abbrev main_c_170 : Ref sig .tc := ⟨.hbm, 806, rfl⟩
abbrev main_v632 : Ref sig .tc := ⟨.hbm, 807, rfl⟩
abbrev main_v633 : Ref sig .tc := ⟨.hbm, 808, rfl⟩
abbrev main_c_171 : Ref sig .tc := ⟨.hbm, 809, rfl⟩
abbrev main_v634 : Ref sig .tc := ⟨.hbm, 810, rfl⟩
abbrev main_v635 : Ref sig .tc := ⟨.hbm, 811, rfl⟩
abbrev main_v636 : Ref sig .tc := ⟨.hbm, 812, rfl⟩
abbrev main_v637 : Ref sig .tc := ⟨.hbm, 813, rfl⟩
abbrev main_v638 : Ref sig .tc := ⟨.hbm, 814, rfl⟩
abbrev main_v639 : Ref sig .tc := ⟨.hbm, 815, rfl⟩
abbrev main_v640 : Ref sig .tc := ⟨.hbm, 816, rfl⟩
abbrev main_v641 : Ref sig .tc := ⟨.hbm, 817, rfl⟩
abbrev main_c_172 : Ref sig .tc := ⟨.hbm, 818, rfl⟩
abbrev main_v642 : Ref sig .tc := ⟨.hbm, 819, rfl⟩
abbrev main_v643 : Ref sig .tc := ⟨.hbm, 820, rfl⟩
abbrev main_v644 : Ref sig .tc := ⟨.hbm, 821, rfl⟩
abbrev main_c_173 : Ref sig .tc := ⟨.hbm, 822, rfl⟩
abbrev main_v645 : Ref sig .tc := ⟨.hbm, 823, rfl⟩
abbrev main_v646 : Ref sig .tc := ⟨.hbm, 824, rfl⟩
abbrev main_c_174 : Ref sig .tc := ⟨.hbm, 825, rfl⟩
abbrev main_v647 : Ref sig .tc := ⟨.hbm, 826, rfl⟩
abbrev main_v648 : Ref sig .tc := ⟨.hbm, 827, rfl⟩
abbrev main_v649 : Ref sig .tc := ⟨.hbm, 828, rfl⟩
abbrev main_v650 : Ref sig .tc := ⟨.hbm, 829, rfl⟩
abbrev main_v651 : Ref sig .tc := ⟨.hbm, 830, rfl⟩
abbrev main_c_175 : Ref sig .tc := ⟨.hbm, 831, rfl⟩
abbrev main_v652 : Ref sig .tc := ⟨.hbm, 832, rfl⟩
abbrev main_v653 : Ref sig .tc := ⟨.hbm, 833, rfl⟩
abbrev main_c_176 : Ref sig .tc := ⟨.hbm, 834, rfl⟩
abbrev main_v654 : Ref sig .tc := ⟨.hbm, 835, rfl⟩
abbrev main_v655 : Ref sig .tc := ⟨.hbm, 836, rfl⟩
abbrev main_v656 : Ref sig .tc := ⟨.hbm, 837, rfl⟩
abbrev main_v657 : Ref sig .tc := ⟨.hbm, 838, rfl⟩
abbrev main_v658 : Ref sig .tc := ⟨.hbm, 839, rfl⟩
abbrev main_c_177 : Ref sig .tc := ⟨.hbm, 840, rfl⟩
abbrev main_v659 : Ref sig .tc := ⟨.hbm, 841, rfl⟩
abbrev main_v660 : Ref sig .tc := ⟨.hbm, 842, rfl⟩
abbrev main_c_178 : Ref sig .tc := ⟨.hbm, 843, rfl⟩
abbrev main_v661 : Ref sig .tc := ⟨.hbm, 844, rfl⟩
abbrev main_v662 : Ref sig .tc := ⟨.hbm, 845, rfl⟩
abbrev main_v663 : Ref sig .tc := ⟨.hbm, 846, rfl⟩
abbrev main_v664 : Ref sig .tc := ⟨.hbm, 847, rfl⟩
abbrev main_v665 : Ref sig .tc := ⟨.hbm, 848, rfl⟩
abbrev main_c_179 : Ref sig .tc := ⟨.hbm, 849, rfl⟩
abbrev main_v666 : Ref sig .tc := ⟨.hbm, 850, rfl⟩
abbrev main_v667 : Ref sig .tc := ⟨.hbm, 851, rfl⟩
abbrev main_c_180 : Ref sig .tc := ⟨.hbm, 852, rfl⟩
abbrev main_v668 : Ref sig .tc := ⟨.hbm, 853, rfl⟩
abbrev main_v669 : Ref sig .tc := ⟨.hbm, 854, rfl⟩
abbrev main_v670 : Ref sig .tc := ⟨.hbm, 855, rfl⟩
abbrev main_v671 : Ref sig .tc := ⟨.hbm, 856, rfl⟩
abbrev main_v672 : Ref sig .tc := ⟨.hbm, 857, rfl⟩
abbrev main_v673 : Ref sig .tc := ⟨.hbm, 858, rfl⟩
abbrev main_v674 : Ref sig .tc := ⟨.hbm, 859, rfl⟩
abbrev main_v675 : Ref sig .tc := ⟨.hbm, 860, rfl⟩
abbrev main_c_181 : Ref sig .tc := ⟨.hbm, 861, rfl⟩
abbrev main_v676 : Ref sig .tc := ⟨.hbm, 862, rfl⟩
abbrev main_v677 : Ref sig .tc := ⟨.hbm, 863, rfl⟩
abbrev main_v678 : Ref sig .tc := ⟨.hbm, 864, rfl⟩
abbrev main_c_182 : Ref sig .tc := ⟨.hbm, 865, rfl⟩
abbrev main_v679 : Ref sig .tc := ⟨.hbm, 866, rfl⟩
abbrev main_v680 : Ref sig .tc := ⟨.hbm, 867, rfl⟩
abbrev main_c_183 : Ref sig .tc := ⟨.hbm, 868, rfl⟩
abbrev main_v681 : Ref sig .tc := ⟨.hbm, 869, rfl⟩
abbrev main_v682 : Ref sig .tc := ⟨.hbm, 870, rfl⟩
abbrev main_v683 : Ref sig .tc := ⟨.hbm, 871, rfl⟩
abbrev main_v684 : Ref sig .tc := ⟨.hbm, 872, rfl⟩
abbrev main_v685 : Ref sig .tc := ⟨.hbm, 873, rfl⟩
abbrev main_c_184 : Ref sig .tc := ⟨.hbm, 874, rfl⟩
abbrev main_v686 : Ref sig .tc := ⟨.hbm, 875, rfl⟩
abbrev main_v687 : Ref sig .tc := ⟨.hbm, 876, rfl⟩
abbrev main_c_185 : Ref sig .tc := ⟨.hbm, 877, rfl⟩
abbrev main_v688 : Ref sig .tc := ⟨.hbm, 878, rfl⟩
abbrev main_v689 : Ref sig .tc := ⟨.hbm, 879, rfl⟩
abbrev main_v690 : Ref sig .tc := ⟨.hbm, 880, rfl⟩
abbrev main_v691 : Ref sig .tc := ⟨.hbm, 881, rfl⟩
abbrev main_v692 : Ref sig .tc := ⟨.hbm, 882, rfl⟩
abbrev main_c_186 : Ref sig .tc := ⟨.hbm, 883, rfl⟩
abbrev main_v693 : Ref sig .tc := ⟨.hbm, 884, rfl⟩
abbrev main_v694 : Ref sig .tc := ⟨.hbm, 885, rfl⟩
abbrev main_c_187 : Ref sig .tc := ⟨.hbm, 886, rfl⟩
abbrev main_v695 : Ref sig .tc := ⟨.hbm, 887, rfl⟩
abbrev main_v696 : Ref sig .tc := ⟨.hbm, 888, rfl⟩
abbrev main_v697 : Ref sig .tc := ⟨.hbm, 889, rfl⟩
abbrev main_v698 : Ref sig .tc := ⟨.hbm, 890, rfl⟩
abbrev main_v699 : Ref sig .tc := ⟨.hbm, 891, rfl⟩
abbrev main_c_188 : Ref sig .tc := ⟨.hbm, 892, rfl⟩
abbrev main_v700 : Ref sig .tc := ⟨.hbm, 893, rfl⟩
abbrev main_v701 : Ref sig .tc := ⟨.hbm, 894, rfl⟩
abbrev main_c_189 : Ref sig .tc := ⟨.hbm, 895, rfl⟩
abbrev main_v702 : Ref sig .tc := ⟨.hbm, 896, rfl⟩
abbrev main_v703 : Ref sig .tc := ⟨.hbm, 897, rfl⟩
abbrev main_v704 : Ref sig .tc := ⟨.hbm, 898, rfl⟩
abbrev main_v705 : Ref sig .tc := ⟨.hbm, 899, rfl⟩
abbrev main_v706 : Ref sig .tc := ⟨.hbm, 900, rfl⟩
abbrev main_v707 : Ref sig .tc := ⟨.hbm, 901, rfl⟩
abbrev main_v708 : Ref sig .tc := ⟨.hbm, 902, rfl⟩
abbrev main_v709 : Ref sig .tc := ⟨.hbm, 903, rfl⟩
abbrev main_c_190 : Ref sig .tc := ⟨.hbm, 904, rfl⟩
abbrev main_v710 : Ref sig .tc := ⟨.hbm, 905, rfl⟩
abbrev main_v711 : Ref sig .tc := ⟨.hbm, 906, rfl⟩
abbrev main_v712 : Ref sig .tc := ⟨.hbm, 907, rfl⟩
abbrev main_c_191 : Ref sig .tc := ⟨.hbm, 908, rfl⟩
abbrev main_v713 : Ref sig .tc := ⟨.hbm, 909, rfl⟩
abbrev main_v714 : Ref sig .tc := ⟨.hbm, 910, rfl⟩
abbrev main_c_192 : Ref sig .tc := ⟨.hbm, 911, rfl⟩
abbrev main_v715 : Ref sig .tc := ⟨.hbm, 912, rfl⟩
abbrev main_v716 : Ref sig .tc := ⟨.hbm, 913, rfl⟩
abbrev main_v717 : Ref sig .tc := ⟨.hbm, 914, rfl⟩
abbrev main_v718 : Ref sig .tc := ⟨.hbm, 915, rfl⟩
abbrev main_v719 : Ref sig .tc := ⟨.hbm, 916, rfl⟩
abbrev main_c_193 : Ref sig .tc := ⟨.hbm, 917, rfl⟩
abbrev main_v720 : Ref sig .tc := ⟨.hbm, 918, rfl⟩
abbrev main_v721 : Ref sig .tc := ⟨.hbm, 919, rfl⟩
abbrev main_c_194 : Ref sig .tc := ⟨.hbm, 920, rfl⟩
abbrev main_v722 : Ref sig .tc := ⟨.hbm, 921, rfl⟩
abbrev main_v723 : Ref sig .tc := ⟨.hbm, 922, rfl⟩
abbrev main_v724 : Ref sig .tc := ⟨.hbm, 923, rfl⟩
abbrev main_v725 : Ref sig .tc := ⟨.hbm, 924, rfl⟩
abbrev main_v726 : Ref sig .tc := ⟨.hbm, 925, rfl⟩
abbrev main_c_195 : Ref sig .tc := ⟨.hbm, 926, rfl⟩
abbrev main_v727 : Ref sig .tc := ⟨.hbm, 927, rfl⟩
abbrev main_v728 : Ref sig .tc := ⟨.hbm, 928, rfl⟩
abbrev main_c_196 : Ref sig .tc := ⟨.hbm, 929, rfl⟩
abbrev main_v729 : Ref sig .tc := ⟨.hbm, 930, rfl⟩
abbrev main_v730 : Ref sig .tc := ⟨.hbm, 931, rfl⟩
abbrev main_v731 : Ref sig .tc := ⟨.hbm, 932, rfl⟩
abbrev main_v732 : Ref sig .tc := ⟨.hbm, 933, rfl⟩
abbrev main_v733 : Ref sig .tc := ⟨.hbm, 934, rfl⟩
abbrev main_c_197 : Ref sig .tc := ⟨.hbm, 935, rfl⟩
abbrev main_v734 : Ref sig .tc := ⟨.hbm, 936, rfl⟩
abbrev main_v735 : Ref sig .tc := ⟨.hbm, 937, rfl⟩
abbrev main_c_198 : Ref sig .tc := ⟨.hbm, 938, rfl⟩
abbrev main_v736 : Ref sig .tc := ⟨.hbm, 939, rfl⟩
abbrev main_v737 : Ref sig .tc := ⟨.hbm, 940, rfl⟩
abbrev main_v738 : Ref sig .tc := ⟨.hbm, 941, rfl⟩
abbrev main_v739 : Ref sig .tc := ⟨.hbm, 942, rfl⟩
abbrev main_v740 : Ref sig .tc := ⟨.hbm, 943, rfl⟩
abbrev main_v741 : Ref sig .tc := ⟨.hbm, 944, rfl⟩
abbrev main_v742 : Ref sig .tc := ⟨.hbm, 945, rfl⟩
abbrev main_v743 : Ref sig .tc := ⟨.hbm, 946, rfl⟩
abbrev main_c_199 : Ref sig .tc := ⟨.hbm, 947, rfl⟩
abbrev main_v744 : Ref sig .tc := ⟨.hbm, 948, rfl⟩
abbrev main_v745 : Ref sig .tc := ⟨.hbm, 949, rfl⟩
abbrev main_v746 : Ref sig .tc := ⟨.hbm, 950, rfl⟩
abbrev main_c_200 : Ref sig .tc := ⟨.hbm, 951, rfl⟩
abbrev main_v747 : Ref sig .tc := ⟨.hbm, 952, rfl⟩
abbrev main_v748 : Ref sig .tc := ⟨.hbm, 953, rfl⟩
abbrev main_c_201 : Ref sig .tc := ⟨.hbm, 954, rfl⟩
abbrev main_v749 : Ref sig .tc := ⟨.hbm, 955, rfl⟩
abbrev main_v750 : Ref sig .tc := ⟨.hbm, 956, rfl⟩
abbrev main_v751 : Ref sig .tc := ⟨.hbm, 957, rfl⟩
abbrev main_v752 : Ref sig .tc := ⟨.hbm, 958, rfl⟩
abbrev main_v753 : Ref sig .tc := ⟨.hbm, 959, rfl⟩
abbrev main_c_202 : Ref sig .tc := ⟨.hbm, 960, rfl⟩
abbrev main_v754 : Ref sig .tc := ⟨.hbm, 961, rfl⟩
abbrev main_v755 : Ref sig .tc := ⟨.hbm, 962, rfl⟩
abbrev main_c_203 : Ref sig .tc := ⟨.hbm, 963, rfl⟩
abbrev main_v756 : Ref sig .tc := ⟨.hbm, 964, rfl⟩
abbrev main_v757 : Ref sig .tc := ⟨.hbm, 965, rfl⟩
abbrev main_v758 : Ref sig .tc := ⟨.hbm, 966, rfl⟩
abbrev main_v759 : Ref sig .tc := ⟨.hbm, 967, rfl⟩
abbrev main_v760 : Ref sig .tc := ⟨.hbm, 968, rfl⟩
abbrev main_c_204 : Ref sig .tc := ⟨.hbm, 969, rfl⟩
abbrev main_v761 : Ref sig .tc := ⟨.hbm, 970, rfl⟩
abbrev main_v762 : Ref sig .tc := ⟨.hbm, 971, rfl⟩
abbrev main_c_205 : Ref sig .tc := ⟨.hbm, 972, rfl⟩
abbrev main_v763 : Ref sig .tc := ⟨.hbm, 973, rfl⟩
abbrev main_v764 : Ref sig .tc := ⟨.hbm, 974, rfl⟩
abbrev main_v765 : Ref sig .tc := ⟨.hbm, 975, rfl⟩
abbrev main_v766 : Ref sig .tc := ⟨.hbm, 976, rfl⟩
abbrev main_v767 : Ref sig .tc := ⟨.hbm, 977, rfl⟩
abbrev main_c_206 : Ref sig .tc := ⟨.hbm, 978, rfl⟩
abbrev main_v768 : Ref sig .tc := ⟨.hbm, 979, rfl⟩
abbrev main_v769 : Ref sig .tc := ⟨.hbm, 980, rfl⟩
abbrev main_c_207 : Ref sig .tc := ⟨.hbm, 981, rfl⟩
abbrev main_v770 : Ref sig .tc := ⟨.hbm, 982, rfl⟩
abbrev main_v771 : Ref sig .tc := ⟨.hbm, 983, rfl⟩
abbrev main_v772 : Ref sig .tc := ⟨.hbm, 984, rfl⟩
abbrev main_v773 : Ref sig .tc := ⟨.hbm, 985, rfl⟩
abbrev main_v774 : Ref sig .tc := ⟨.hbm, 986, rfl⟩
abbrev main_v775 : Ref sig .tc := ⟨.hbm, 987, rfl⟩
abbrev main_v776 : Ref sig .tc := ⟨.hbm, 988, rfl⟩
abbrev main_v777 : Ref sig .tc := ⟨.hbm, 989, rfl⟩
abbrev main_c_208 : Ref sig .tc := ⟨.hbm, 990, rfl⟩
abbrev main_v778 : Ref sig .tc := ⟨.hbm, 991, rfl⟩
abbrev main_v779 : Ref sig .tc := ⟨.hbm, 992, rfl⟩
abbrev main_v780 : Ref sig .tc := ⟨.hbm, 993, rfl⟩
abbrev main_v781 : Ref sig .tc := ⟨.hbm, 994, rfl⟩
abbrev main_v782 : Ref sig .tc := ⟨.hbm, 995, rfl⟩
abbrev main_v783 : Ref sig .tc := ⟨.hbm, 996, rfl⟩
abbrev main_c_209 : Ref sig .tc := ⟨.hbm, 997, rfl⟩
abbrev main_v784 : Ref sig .tc := ⟨.hbm, 998, rfl⟩
abbrev main_v785 : Ref sig .tc := ⟨.hbm, 999, rfl⟩
abbrev main_v786 : Ref sig .tc := ⟨.hbm, 1000, rfl⟩
abbrev main_v787 : Ref sig .tc := ⟨.hbm, 1001, rfl⟩
abbrev main_v788 : Ref sig .tc := ⟨.hbm, 1002, rfl⟩
abbrev main_c_210 : Ref sig .tc := ⟨.hbm, 1003, rfl⟩
abbrev main_v789 : Ref sig .tc := ⟨.hbm, 1004, rfl⟩
abbrev main_v790 : Ref sig .tc := ⟨.hbm, 1005, rfl⟩
abbrev main_v791 : Ref sig .tc := ⟨.hbm, 1006, rfl⟩
abbrev main_c_211 : Ref sig .tc := ⟨.hbm, 1007, rfl⟩
abbrev main_v792 : Ref sig .tc := ⟨.hbm, 1008, rfl⟩
abbrev main_v793 : Ref sig .tc := ⟨.hbm, 1009, rfl⟩
abbrev main_v794 : Ref sig .tc := ⟨.hbm, 1010, rfl⟩
abbrev main_v795 : Ref sig .tc := ⟨.hbm, 1011, rfl⟩
abbrev main_v796 : Ref sig .tc := ⟨.hbm, 1012, rfl⟩
abbrev main_v797 : Ref sig .tc := ⟨.hbm, 1013, rfl⟩
abbrev main_v798 : Ref sig .tc := ⟨.hbm, 1014, rfl⟩
abbrev main_v799 : Ref sig .tc := ⟨.hbm, 1015, rfl⟩
abbrev main_v800 : Ref sig .tc := ⟨.hbm, 1016, rfl⟩
abbrev main_v801 : Ref sig .tc := ⟨.hbm, 1017, rfl⟩
abbrev main_v802 : Ref sig .tc := ⟨.hbm, 1018, rfl⟩
abbrev main_v803 : Ref sig .tc := ⟨.hbm, 1019, rfl⟩
abbrev main_v804 : Ref sig .tc := ⟨.hbm, 1020, rfl⟩
abbrev main_v805 : Ref sig .tc := ⟨.hbm, 1021, rfl⟩
abbrev main_v806 : Ref sig .tc := ⟨.hbm, 1022, rfl⟩
abbrev main_v807 : Ref sig .tc := ⟨.hbm, 1023, rfl⟩
abbrev main_c_212 : Ref sig .tc := ⟨.hbm, 1024, rfl⟩
abbrev main_v808 : Ref sig .tc := ⟨.hbm, 1025, rfl⟩
abbrev main_v809 : Ref sig .tc := ⟨.hbm, 1026, rfl⟩
abbrev main_c_213 : Ref sig .tc := ⟨.hbm, 1027, rfl⟩
abbrev main_v810 : Ref sig .tc := ⟨.hbm, 1028, rfl⟩
abbrev main_v811 : Ref sig .tc := ⟨.hbm, 1029, rfl⟩
abbrev main_v812 : Ref sig .tc := ⟨.hbm, 1030, rfl⟩
abbrev main_v813 : Ref sig .tc := ⟨.hbm, 1031, rfl⟩
abbrev main_v814 : Ref sig .tc := ⟨.hbm, 1032, rfl⟩
abbrev main_v815 : Ref sig .tc := ⟨.hbm, 1033, rfl⟩
abbrev main_cst : Ref sig .tc := ⟨.hbm, 1034, rfl⟩
abbrev main_v816 : Ref sig .tc := ⟨.hbm, 1035, rfl⟩
abbrev main_cst_214 : Ref sig .tc := ⟨.hbm, 1036, rfl⟩
abbrev main_v817 : Ref sig .tc := ⟨.hbm, 1037, rfl⟩
abbrev main_c_215 : Ref sig .tc := ⟨.hbm, 1038, rfl⟩
abbrev main_v818 : Ref sig .tc := ⟨.hbm, 1039, rfl⟩
abbrev main_c_216 : Ref sig .tc := ⟨.hbm, 1040, rfl⟩
abbrev main_v819 : Ref sig .tc := ⟨.hbm, 1041, rfl⟩
abbrev main_v820 : Ref sig .tc := ⟨.hbm, 1042, rfl⟩
abbrev main_v821 : Ref sig .tc := ⟨.hbm, 1043, rfl⟩
abbrev main_v822 : Ref sig .tc := ⟨.hbm, 1044, rfl⟩
abbrev main_c_217 : Ref sig .tc := ⟨.hbm, 1045, rfl⟩
abbrev main_v823 : Ref sig .tc := ⟨.hbm, 1046, rfl⟩
abbrev main_v824 : Ref sig .tc := ⟨.hbm, 1047, rfl⟩
abbrev main_v825 : Ref sig .tc := ⟨.hbm, 1048, rfl⟩
abbrev main_v826 : Ref sig .tc := ⟨.hbm, 1049, rfl⟩
abbrev main_v827 : Ref sig .tc := ⟨.hbm, 1050, rfl⟩
abbrev main_v828 : Ref sig .tc := ⟨.hbm, 1051, rfl⟩
abbrev main_v829 : Ref sig .tc := ⟨.hbm, 1052, rfl⟩
abbrev main_v830 : Ref sig .tc := ⟨.hbm, 1053, rfl⟩
abbrev main_c_218 : Ref sig .tc := ⟨.hbm, 1054, rfl⟩
abbrev main_v831 : Ref sig .tc := ⟨.hbm, 1055, rfl⟩
abbrev main_v832 : Ref sig .tc := ⟨.hbm, 1056, rfl⟩
abbrev main_c_219 : Ref sig .tc := ⟨.hbm, 1057, rfl⟩
abbrev main_v833 : Ref sig .tc := ⟨.hbm, 1058, rfl⟩
abbrev main_v834 : Ref sig .tc := ⟨.hbm, 1059, rfl⟩
abbrev main_v835 : Ref sig .tc := ⟨.hbm, 1060, rfl⟩
abbrev main_v836 : Ref sig .tc := ⟨.hbm, 1061, rfl⟩
abbrev main_v837 : Ref sig .tc := ⟨.hbm, 1062, rfl⟩
abbrev main_v838 : Ref sig .tc := ⟨.hbm, 1063, rfl⟩
abbrev main_c_220 : Ref sig .tc := ⟨.hbm, 1064, rfl⟩
abbrev main_v839 : Ref sig .tc := ⟨.hbm, 1065, rfl⟩
abbrev main_v840 : Ref sig .tc := ⟨.hbm, 1066, rfl⟩
abbrev main_c_221 : Ref sig .tc := ⟨.hbm, 1067, rfl⟩
abbrev main_v841 : Ref sig .tc := ⟨.hbm, 1068, rfl⟩
abbrev main_v842 : Ref sig .tc := ⟨.hbm, 1069, rfl⟩
abbrev main_v843 : Ref sig .tc := ⟨.hbm, 1070, rfl⟩
abbrev main_v844 : Ref sig .tc := ⟨.hbm, 1071, rfl⟩
abbrev main_v845 : Ref sig .tc := ⟨.hbm, 1072, rfl⟩
abbrev main_c_222 : Ref sig .tc := ⟨.hbm, 1073, rfl⟩
abbrev main_v846 : Ref sig .tc := ⟨.hbm, 1074, rfl⟩
abbrev main_v847 : Ref sig .tc := ⟨.hbm, 1075, rfl⟩
abbrev main_c_223 : Ref sig .tc := ⟨.hbm, 1076, rfl⟩
abbrev main_v848 : Ref sig .tc := ⟨.hbm, 1077, rfl⟩
abbrev main_v849 : Ref sig .tc := ⟨.hbm, 1078, rfl⟩
abbrev main_v850 : Ref sig .tc := ⟨.hbm, 1079, rfl⟩
abbrev main_v851 : Ref sig .tc := ⟨.hbm, 1080, rfl⟩
abbrev main_v852 : Ref sig .tc := ⟨.hbm, 1081, rfl⟩
abbrev main_c_224 : Ref sig .tc := ⟨.hbm, 1082, rfl⟩
abbrev main_v853 : Ref sig .tc := ⟨.hbm, 1083, rfl⟩
abbrev main_v854 : Ref sig .tc := ⟨.hbm, 1084, rfl⟩
abbrev main_c_225 : Ref sig .tc := ⟨.hbm, 1085, rfl⟩
abbrev main_v855 : Ref sig .tc := ⟨.hbm, 1086, rfl⟩
abbrev main_v856 : Ref sig .tc := ⟨.hbm, 1087, rfl⟩
abbrev main_v857 : Ref sig .tc := ⟨.hbm, 1088, rfl⟩
abbrev main_v858 : Ref sig .tc := ⟨.hbm, 1089, rfl⟩
abbrev main_v859 : Ref sig .tc := ⟨.hbm, 1090, rfl⟩
abbrev main_c_226 : Ref sig .tc := ⟨.hbm, 1091, rfl⟩
abbrev main_v860 : Ref sig .tc := ⟨.hbm, 1092, rfl⟩
abbrev main_v861 : Ref sig .tc := ⟨.hbm, 1093, rfl⟩
abbrev main_c_227 : Ref sig .tc := ⟨.hbm, 1094, rfl⟩
abbrev main_v862 : Ref sig .tc := ⟨.hbm, 1095, rfl⟩
abbrev main_v863 : Ref sig .tc := ⟨.hbm, 1096, rfl⟩
abbrev main_v864 : Ref sig .tc := ⟨.hbm, 1097, rfl⟩
abbrev main_v865 : Ref sig .tc := ⟨.hbm, 1098, rfl⟩
abbrev main_v866 : Ref sig .tc := ⟨.hbm, 1099, rfl⟩
abbrev main_v867 : Ref sig .tc := ⟨.hbm, 1100, rfl⟩
abbrev main_v868 : Ref sig .tc := ⟨.hbm, 1101, rfl⟩
abbrev main_v869 : Ref sig .tc := ⟨.hbm, 1102, rfl⟩
abbrev main_c_228 : Ref sig .tc := ⟨.hbm, 1103, rfl⟩
abbrev main_v870 : Ref sig .tc := ⟨.hbm, 1104, rfl⟩
abbrev main_v871 : Ref sig .tc := ⟨.hbm, 1105, rfl⟩
abbrev main_v872 : Ref sig .tc := ⟨.hbm, 1106, rfl⟩
abbrev main_c_229 : Ref sig .tc := ⟨.hbm, 1107, rfl⟩
abbrev main_v873 : Ref sig .tc := ⟨.hbm, 1108, rfl⟩
abbrev main_v874 : Ref sig .tc := ⟨.hbm, 1109, rfl⟩
abbrev main_c_230 : Ref sig .tc := ⟨.hbm, 1110, rfl⟩
abbrev main_v875 : Ref sig .tc := ⟨.hbm, 1111, rfl⟩
abbrev main_v876 : Ref sig .tc := ⟨.hbm, 1112, rfl⟩
abbrev main_v877 : Ref sig .tc := ⟨.hbm, 1113, rfl⟩
abbrev main_v878 : Ref sig .tc := ⟨.hbm, 1114, rfl⟩
abbrev main_v879 : Ref sig .tc := ⟨.hbm, 1115, rfl⟩
abbrev main_c_231 : Ref sig .tc := ⟨.hbm, 1116, rfl⟩
abbrev main_v880 : Ref sig .tc := ⟨.hbm, 1117, rfl⟩
abbrev main_v881 : Ref sig .tc := ⟨.hbm, 1118, rfl⟩
abbrev main_c_232 : Ref sig .tc := ⟨.hbm, 1119, rfl⟩
abbrev main_v882 : Ref sig .tc := ⟨.hbm, 1120, rfl⟩
abbrev main_v883 : Ref sig .tc := ⟨.hbm, 1121, rfl⟩
abbrev main_v884 : Ref sig .tc := ⟨.hbm, 1122, rfl⟩
abbrev main_v885 : Ref sig .tc := ⟨.hbm, 1123, rfl⟩
abbrev main_v886 : Ref sig .tc := ⟨.hbm, 1124, rfl⟩
abbrev main_c_233 : Ref sig .tc := ⟨.hbm, 1125, rfl⟩
abbrev main_v887 : Ref sig .tc := ⟨.hbm, 1126, rfl⟩
abbrev main_v888 : Ref sig .tc := ⟨.hbm, 1127, rfl⟩
abbrev main_c_234 : Ref sig .tc := ⟨.hbm, 1128, rfl⟩
abbrev main_v889 : Ref sig .tc := ⟨.hbm, 1129, rfl⟩
abbrev main_v890 : Ref sig .tc := ⟨.hbm, 1130, rfl⟩
abbrev main_v891 : Ref sig .tc := ⟨.hbm, 1131, rfl⟩
abbrev main_v892 : Ref sig .tc := ⟨.hbm, 1132, rfl⟩
abbrev main_v893 : Ref sig .tc := ⟨.hbm, 1133, rfl⟩
abbrev main_c_235 : Ref sig .tc := ⟨.hbm, 1134, rfl⟩
abbrev main_v894 : Ref sig .tc := ⟨.hbm, 1135, rfl⟩
abbrev main_v895 : Ref sig .tc := ⟨.hbm, 1136, rfl⟩
abbrev main_c_236 : Ref sig .tc := ⟨.hbm, 1137, rfl⟩
abbrev main_v896 : Ref sig .tc := ⟨.hbm, 1138, rfl⟩
abbrev main_v897 : Ref sig .tc := ⟨.hbm, 1139, rfl⟩
abbrev main_v898 : Ref sig .tc := ⟨.hbm, 1140, rfl⟩
abbrev main_v899 : Ref sig .tc := ⟨.hbm, 1141, rfl⟩
abbrev main_v900 : Ref sig .tc := ⟨.hbm, 1142, rfl⟩
abbrev main_v901 : Ref sig .tc := ⟨.hbm, 1143, rfl⟩
abbrev main_v902 : Ref sig .tc := ⟨.hbm, 1144, rfl⟩
abbrev main_v903 : Ref sig .tc := ⟨.hbm, 1145, rfl⟩
abbrev main_c_237 : Ref sig .tc := ⟨.hbm, 1146, rfl⟩
abbrev main_v904 : Ref sig .tc := ⟨.hbm, 1147, rfl⟩
abbrev main_v905 : Ref sig .tc := ⟨.hbm, 1148, rfl⟩
abbrev main_v906 : Ref sig .tc := ⟨.hbm, 1149, rfl⟩
abbrev main_c_238 : Ref sig .tc := ⟨.hbm, 1150, rfl⟩
abbrev main_v907 : Ref sig .tc := ⟨.hbm, 1151, rfl⟩
abbrev main_v908 : Ref sig .tc := ⟨.hbm, 1152, rfl⟩
abbrev main_c_239 : Ref sig .tc := ⟨.hbm, 1153, rfl⟩
abbrev main_v909 : Ref sig .tc := ⟨.hbm, 1154, rfl⟩
abbrev main_v910 : Ref sig .tc := ⟨.hbm, 1155, rfl⟩
abbrev main_v911 : Ref sig .tc := ⟨.hbm, 1156, rfl⟩
abbrev main_v912 : Ref sig .tc := ⟨.hbm, 1157, rfl⟩
abbrev main_v913 : Ref sig .tc := ⟨.hbm, 1158, rfl⟩
abbrev main_c_240 : Ref sig .tc := ⟨.hbm, 1159, rfl⟩
abbrev main_v914 : Ref sig .tc := ⟨.hbm, 1160, rfl⟩
abbrev main_v915 : Ref sig .tc := ⟨.hbm, 1161, rfl⟩
abbrev main_c_241 : Ref sig .tc := ⟨.hbm, 1162, rfl⟩
abbrev main_v916 : Ref sig .tc := ⟨.hbm, 1163, rfl⟩
abbrev main_v917 : Ref sig .tc := ⟨.hbm, 1164, rfl⟩
abbrev main_v918 : Ref sig .tc := ⟨.hbm, 1165, rfl⟩
abbrev main_v919 : Ref sig .tc := ⟨.hbm, 1166, rfl⟩
abbrev main_v920 : Ref sig .tc := ⟨.hbm, 1167, rfl⟩
abbrev main_c_242 : Ref sig .tc := ⟨.hbm, 1168, rfl⟩
abbrev main_v921 : Ref sig .tc := ⟨.hbm, 1169, rfl⟩
abbrev main_v922 : Ref sig .tc := ⟨.hbm, 1170, rfl⟩
abbrev main_c_243 : Ref sig .tc := ⟨.hbm, 1171, rfl⟩
abbrev main_v923 : Ref sig .tc := ⟨.hbm, 1172, rfl⟩
abbrev main_v924 : Ref sig .tc := ⟨.hbm, 1173, rfl⟩
abbrev main_v925 : Ref sig .tc := ⟨.hbm, 1174, rfl⟩
abbrev main_v926 : Ref sig .tc := ⟨.hbm, 1175, rfl⟩
abbrev main_v927 : Ref sig .tc := ⟨.hbm, 1176, rfl⟩
abbrev main_c_244 : Ref sig .tc := ⟨.hbm, 1177, rfl⟩
abbrev main_v928 : Ref sig .tc := ⟨.hbm, 1178, rfl⟩
abbrev main_v929 : Ref sig .tc := ⟨.hbm, 1179, rfl⟩
abbrev main_c_245 : Ref sig .tc := ⟨.hbm, 1180, rfl⟩
abbrev main_v930 : Ref sig .tc := ⟨.hbm, 1181, rfl⟩
abbrev main_v931 : Ref sig .tc := ⟨.hbm, 1182, rfl⟩
abbrev main_v932 : Ref sig .tc := ⟨.hbm, 1183, rfl⟩
abbrev main_v933 : Ref sig .tc := ⟨.hbm, 1184, rfl⟩
abbrev main_v934 : Ref sig .tc := ⟨.hbm, 1185, rfl⟩
abbrev main_v935 : Ref sig .tc := ⟨.hbm, 1186, rfl⟩
abbrev main_v936 : Ref sig .tc := ⟨.hbm, 1187, rfl⟩
abbrev main_v937 : Ref sig .tc := ⟨.hbm, 1188, rfl⟩
abbrev main_c_246 : Ref sig .tc := ⟨.hbm, 1189, rfl⟩
abbrev main_v938 : Ref sig .tc := ⟨.hbm, 1190, rfl⟩
abbrev main_v939 : Ref sig .tc := ⟨.hbm, 1191, rfl⟩
abbrev main_v940 : Ref sig .tc := ⟨.hbm, 1192, rfl⟩
abbrev main_c_247 : Ref sig .tc := ⟨.hbm, 1193, rfl⟩
abbrev main_v941 : Ref sig .tc := ⟨.hbm, 1194, rfl⟩
abbrev main_v942 : Ref sig .tc := ⟨.hbm, 1195, rfl⟩
abbrev main_c_248 : Ref sig .tc := ⟨.hbm, 1196, rfl⟩
abbrev main_v943 : Ref sig .tc := ⟨.hbm, 1197, rfl⟩
abbrev main_v944 : Ref sig .tc := ⟨.hbm, 1198, rfl⟩
abbrev main_v945 : Ref sig .tc := ⟨.hbm, 1199, rfl⟩
abbrev main_v946 : Ref sig .tc := ⟨.hbm, 1200, rfl⟩
abbrev main_v947 : Ref sig .tc := ⟨.hbm, 1201, rfl⟩
abbrev main_c_249 : Ref sig .tc := ⟨.hbm, 1202, rfl⟩
abbrev main_v948 : Ref sig .tc := ⟨.hbm, 1203, rfl⟩
abbrev main_v949 : Ref sig .tc := ⟨.hbm, 1204, rfl⟩
abbrev main_c_250 : Ref sig .tc := ⟨.hbm, 1205, rfl⟩
abbrev main_v950 : Ref sig .tc := ⟨.hbm, 1206, rfl⟩
abbrev main_v951 : Ref sig .tc := ⟨.hbm, 1207, rfl⟩
abbrev main_v952 : Ref sig .tc := ⟨.hbm, 1208, rfl⟩
abbrev main_v953 : Ref sig .tc := ⟨.hbm, 1209, rfl⟩
abbrev main_v954 : Ref sig .tc := ⟨.hbm, 1210, rfl⟩
abbrev main_c_251 : Ref sig .tc := ⟨.hbm, 1211, rfl⟩
abbrev main_v955 : Ref sig .tc := ⟨.hbm, 1212, rfl⟩
abbrev main_v956 : Ref sig .tc := ⟨.hbm, 1213, rfl⟩
abbrev main_c_252 : Ref sig .tc := ⟨.hbm, 1214, rfl⟩
abbrev main_v957 : Ref sig .tc := ⟨.hbm, 1215, rfl⟩
abbrev main_v958 : Ref sig .tc := ⟨.hbm, 1216, rfl⟩
abbrev main_v959 : Ref sig .tc := ⟨.hbm, 1217, rfl⟩
abbrev main_v960 : Ref sig .tc := ⟨.hbm, 1218, rfl⟩
abbrev main_v961 : Ref sig .tc := ⟨.hbm, 1219, rfl⟩
abbrev main_c_253 : Ref sig .tc := ⟨.hbm, 1220, rfl⟩
abbrev main_v962 : Ref sig .tc := ⟨.hbm, 1221, rfl⟩
abbrev main_v963 : Ref sig .tc := ⟨.hbm, 1222, rfl⟩
abbrev main_c_254 : Ref sig .tc := ⟨.hbm, 1223, rfl⟩
abbrev main_v964 : Ref sig .tc := ⟨.hbm, 1224, rfl⟩
abbrev main_v965 : Ref sig .tc := ⟨.hbm, 1225, rfl⟩
abbrev main_v966 : Ref sig .tc := ⟨.hbm, 1226, rfl⟩
abbrev main_v967 : Ref sig .tc := ⟨.hbm, 1227, rfl⟩
abbrev main_v968 : Ref sig .tc := ⟨.hbm, 1228, rfl⟩
abbrev main_v969 : Ref sig .tc := ⟨.hbm, 1229, rfl⟩
abbrev main_v970 : Ref sig .tc := ⟨.hbm, 1230, rfl⟩
abbrev main_v971 : Ref sig .tc := ⟨.hbm, 1231, rfl⟩
abbrev main_c_255 : Ref sig .tc := ⟨.hbm, 1232, rfl⟩
abbrev main_v972 : Ref sig .tc := ⟨.hbm, 1233, rfl⟩
abbrev main_v973 : Ref sig .tc := ⟨.hbm, 1234, rfl⟩
abbrev main_v974 : Ref sig .tc := ⟨.hbm, 1235, rfl⟩
abbrev main_c_256 : Ref sig .tc := ⟨.hbm, 1236, rfl⟩
abbrev main_v975 : Ref sig .tc := ⟨.hbm, 1237, rfl⟩
abbrev main_v976 : Ref sig .tc := ⟨.hbm, 1238, rfl⟩
abbrev main_c_257 : Ref sig .tc := ⟨.hbm, 1239, rfl⟩
abbrev main_v977 : Ref sig .tc := ⟨.hbm, 1240, rfl⟩
abbrev main_v978 : Ref sig .tc := ⟨.hbm, 1241, rfl⟩
abbrev main_v979 : Ref sig .tc := ⟨.hbm, 1242, rfl⟩
abbrev main_v980 : Ref sig .tc := ⟨.hbm, 1243, rfl⟩
abbrev main_v981 : Ref sig .tc := ⟨.hbm, 1244, rfl⟩
abbrev main_c_258 : Ref sig .tc := ⟨.hbm, 1245, rfl⟩
abbrev main_v982 : Ref sig .tc := ⟨.hbm, 1246, rfl⟩
abbrev main_v983 : Ref sig .tc := ⟨.hbm, 1247, rfl⟩
abbrev main_c_259 : Ref sig .tc := ⟨.hbm, 1248, rfl⟩
abbrev main_v984 : Ref sig .tc := ⟨.hbm, 1249, rfl⟩
abbrev main_v985 : Ref sig .tc := ⟨.hbm, 1250, rfl⟩
abbrev main_v986 : Ref sig .tc := ⟨.hbm, 1251, rfl⟩
abbrev main_v987 : Ref sig .tc := ⟨.hbm, 1252, rfl⟩
abbrev main_v988 : Ref sig .tc := ⟨.hbm, 1253, rfl⟩
abbrev main_c_260 : Ref sig .tc := ⟨.hbm, 1254, rfl⟩
abbrev main_v989 : Ref sig .tc := ⟨.hbm, 1255, rfl⟩
abbrev main_v990 : Ref sig .tc := ⟨.hbm, 1256, rfl⟩
abbrev main_c_261 : Ref sig .tc := ⟨.hbm, 1257, rfl⟩
abbrev main_v991 : Ref sig .tc := ⟨.hbm, 1258, rfl⟩
abbrev main_v992 : Ref sig .tc := ⟨.hbm, 1259, rfl⟩
abbrev main_v993 : Ref sig .tc := ⟨.hbm, 1260, rfl⟩
abbrev main_v994 : Ref sig .tc := ⟨.hbm, 1261, rfl⟩
abbrev main_v995 : Ref sig .tc := ⟨.hbm, 1262, rfl⟩
abbrev main_c_262 : Ref sig .tc := ⟨.hbm, 1263, rfl⟩
abbrev main_v996 : Ref sig .tc := ⟨.hbm, 1264, rfl⟩
abbrev main_v997 : Ref sig .tc := ⟨.hbm, 1265, rfl⟩
abbrev main_c_263 : Ref sig .tc := ⟨.hbm, 1266, rfl⟩
abbrev main_v998 : Ref sig .tc := ⟨.hbm, 1267, rfl⟩
abbrev main_v999 : Ref sig .tc := ⟨.hbm, 1268, rfl⟩
abbrev main_v1000 : Ref sig .tc := ⟨.hbm, 1269, rfl⟩
abbrev main_v1001 : Ref sig .tc := ⟨.hbm, 1270, rfl⟩
abbrev main_v1002 : Ref sig .tc := ⟨.hbm, 1271, rfl⟩
abbrev main_v1003 : Ref sig .tc := ⟨.hbm, 1272, rfl⟩
abbrev main_v1004 : Ref sig .tc := ⟨.hbm, 1273, rfl⟩
abbrev main_v1005 : Ref sig .tc := ⟨.hbm, 1274, rfl⟩
abbrev main_c_264 : Ref sig .tc := ⟨.hbm, 1275, rfl⟩
abbrev main_v1006 : Ref sig .tc := ⟨.hbm, 1276, rfl⟩
abbrev main_v1007 : Ref sig .tc := ⟨.hbm, 1277, rfl⟩
abbrev main_v1008 : Ref sig .tc := ⟨.hbm, 1278, rfl⟩
abbrev main_c_265 : Ref sig .tc := ⟨.hbm, 1279, rfl⟩
abbrev main_v1009 : Ref sig .tc := ⟨.hbm, 1280, rfl⟩
abbrev main_v1010 : Ref sig .tc := ⟨.hbm, 1281, rfl⟩
abbrev main_c_266 : Ref sig .tc := ⟨.hbm, 1282, rfl⟩
abbrev main_v1011 : Ref sig .tc := ⟨.hbm, 1283, rfl⟩
abbrev main_v1012 : Ref sig .tc := ⟨.hbm, 1284, rfl⟩
abbrev main_v1013 : Ref sig .tc := ⟨.hbm, 1285, rfl⟩
abbrev main_cst_267 : Ref sig .tc := ⟨.hbm, 1286, rfl⟩
abbrev main_v1014 : Ref sig .tc := ⟨.hbm, 1287, rfl⟩
abbrev main_v1015 : Ref sig .tc := ⟨.hbm, 1288, rfl⟩
abbrev main_v1016 : Ref sig .tc := ⟨.hbm, 1289, rfl⟩
abbrev main_v1017 : Ref sig .tc := ⟨.hbm, 1290, rfl⟩
abbrev main_v1018 : Ref sig .tc := ⟨.hbm, 1291, rfl⟩
abbrev main_v1019 : Ref sig .tc := ⟨.hbm, 1292, rfl⟩
abbrev main_v1020 : Ref sig .tc := ⟨.hbm, 1293, rfl⟩
abbrev main_v1021 : Ref sig .tc := ⟨.hbm, 1294, rfl⟩
abbrev main_v1022 : Ref sig .tc := ⟨.hbm, 1295, rfl⟩
abbrev main_v1023 : Ref sig .tc := ⟨.hbm, 1296, rfl⟩
abbrev main_v1024 : Ref sig .tc := ⟨.hbm, 1297, rfl⟩
abbrev main_v1025 : Ref sig .tc := ⟨.hbm, 1298, rfl⟩

abbrev nD : Nat := 1
abbrev τ : Topo := Topo.v7x

variable {F : FTy → Type} [FloatOps F]
-- ==== Proof.Words.lean ====
/-
  The generator of random 32-bit words, threefry2x32, as a function of words (hand-written, untrusted): what one round,
  one key addition and the whole block function do to a pair of words, the word the generator gives at position `n` under
  a key, and the form of the same word with the key constants added together beforehand, which the kernel uses.
-/
module

public import Idealize.ShloMosaic.PureOps

@[expose] public section

noncomputable section

namespace Cert.Words

open Idealize.ShloMosaic

/-- A word rotated left: by `l` to the left, or-ed with itself by `r` to the right (`l + r = 32` in every use). -/
def rot (l r x : BitVec 32) : BitVec 32 := x <<< l ||| x >>> r

/-- One round on the pair `(x0, x1)`: the first becomes the sum, the second is rotated and xor-ed with that sum. -/
def mix (l r : BitVec 32) (p : BitVec 32 × BitVec 32) : BitVec 32 × BitVec 32 :=
  (p.1 + p.2, (p.1 + p.2) ^^^ rot l r p.2)

/-- The four rounds of an even group, -/
def even (p : BitVec 32 × BitVec 32) : BitVec 32 × BitVec 32 := mix 6 26 (mix 26 6 (mix 15 17 (mix 13 19 p)))
/-- and of an odd one. -/
def odd (p : BitVec 32 × BitVec 32) : BitVec 32 × BitVec 32 := mix 24 8 (mix 16 16 (mix 29 3 (mix 17 15 p)))

/-- Two key words added after a group, the group's number to the second word. -/
def inject (a b c : BitVec 32) (p : BitVec 32 × BitVec 32) : BitVec 32 × BitVec 32 := (p.1 + a, p.2 + b + c)

/-- The third key word. -/
def third (k0 k1 : BitVec 32) : BitVec 32 := k0 ^^^ k1 ^^^ 466688986#32

/-- The twenty rounds after the first key addition. -/
def rounds (k0 k1 : BitVec 32) (p : BitVec 32 × BitVec 32) : BitVec 32 × BitVec 32 :=
  inject (third k0 k1) k0 5#32 (even (inject k1 (third k0 k1) 4#32 (odd (inject k0 k1 3#32 (even
    (inject (third k0 k1) k0 2#32 (odd (inject k1 (third k0 k1) 1#32 (even p)))))))))

/-- The block function: threefry2x32 of the key `(k0, k1)` at the count `(x0, x1)`. -/
def block (k0 k1 x0 x1 : BitVec 32) : BitVec 32 × BitVec 32 := rounds k0 k1 (x0 + k0, x1 + k1)

/-- The random word at position `n` under the key `(k0, k1)`: the two words of the block at `(0, n)`, xor-ed. -/
def word (k0 k1 n : BitVec 32) : BitVec 32 := (block k0 k1 0#32 n).1 ^^^ (block k0 k1 0#32 n).2

/-! ## The keys: seed 42, split into a key for the tokens and one for the uniforms, the former split again -/

theorem split_seed : block 0#32 42#32 0#32 0#32 = (1832780943#32, 270669613#32)
    ∧ block 0#32 42#32 0#32 1#32 = (64467757#32, 2916123636#32) := by decide +kernel

theorem split_noise : (block 1832780943#32 270669613#32 0#32 1#32) = (1705926158#32, 899080142#32) := by decide +kernel

/-! ## The kernel's form: the constants known beforehand are added together -/

/-- One round as the kernel writes it: the operands of the xor the other way round. -/
def mixK (l r : BitVec 32) (p : BitVec 32 × BitVec 32) : BitVec 32 × BitVec 32 :=
  (p.1 + p.2, rot l r p.2 ^^^ (p.1 + p.2))

/-- The key words added by the kernel, the group's number already in the second. -/
def injectK (a b : BitVec 32) (p : BitVec 32 × BitVec 32) : BitVec 32 × BitVec 32 := (p.1 + a, p.2 + b)

/-- An even group of the kernel, -/
def evenK (p : BitVec 32 × BitVec 32) : BitVec 32 × BitVec 32 := mixK 6 26 (mixK 26 6 (mixK 15 17 (mixK 13 19 p)))
/-- an odd one, -/
def oddK (p : BitVec 32 × BitVec 32) : BitVec 32 × BitVec 32 := mixK 24 8 (mixK 16 16 (mixK 29 3 (mixK 17 15 p)))

/-- and the first group, whose first sum is one addition: `s` is the sum of the first two key words. -/
def firstK (k1 s n : BitVec 32) : BitVec 32 × BitVec 32 :=
  mixK 6 26 (mixK 26 6 (mixK 15 17 (n + s, rot 13 19 (n + k1) ^^^ (n + s))))

/-- The twenty rounds of the kernel, with the constants it adds after each group. -/
def roundsK (a b c d e f g h i j k1 s n : BitVec 32) : BitVec 32 × BitVec 32 :=
  injectK i j (evenK (injectK g h (oddK (injectK e f (evenK (injectK c d (oddK (injectK a b (firstK k1 s n)))))))))

theorem mixK_eq (l r : BitVec 32) (p : BitVec 32 × BitVec 32) : mixK l r p = mix l r p :=
  Prod.ext rfl (BitVec.xor_comm _ _)

theorem evenK_eq (p : BitVec 32 × BitVec 32) : evenK p = even p := by simp only [evenK, even, mixK_eq]
theorem oddK_eq (p : BitVec 32 × BitVec 32) : oddK p = odd p := by simp only [oddK, odd, mixK_eq]

theorem firstK_eq (k0 k1 n : BitVec 32) : firstK k1 (k0 + k1) n = even (0#32 + k0, n + k1) := by
  have e : (n + (k0 + k1), rot 13 19 (n + k1) ^^^ (n + (k0 + k1))) = mix 13 19 (0#32 + k0, n + k1) := by
    have h : n + (k0 + k1) = 0#32 + k0 + (n + k1) := by
      rw [BitVec.zero_add]; ac_rfl
    rw [h, ← mixK_eq]; rfl
  unfold firstK
  rw [e]
  simp only [mixK_eq]
  rfl

theorem injectK_eq (a b c : BitVec 32) (p : BitVec 32 × BitVec 32) : injectK a (b + c) p = inject a b c p :=
  Prod.ext rfl (BitVec.add_assoc _ _ _).symm

/-- With the constants the sums they stand for, the kernel's rounds are the block function's at `(0, n)`. -/
theorem roundsK_eq (k0 k1 n : BitVec 32) :
    roundsK k1 (third k0 k1 + 1#32) (third k0 k1) (k0 + 2#32) k0 (k1 + 3#32) k1 (third k0 k1 + 4#32) (third k0 k1) (k0 + 5#32)
      k1 (k0 + k1) n = block k0 k1 0#32 n := by
  unfold roundsK block rounds
  simp only [injectK_eq, evenK_eq, oddK_eq, firstK_eq]

end Cert.Words

end
-- ==== Proof.RefWords.lean ====
/-
  The problem's random words, element by element (hand-written, untrusted): the four runs of the block function the
  reference's result depends on — the split of the seed, the split of the tokens' key, the tokens' words and the
  uniforms' words — and the keys they are run under.
-/
module

public import proofs.«01_k».proof.Proof.Words
public import proofs.«01_k».proof.Proof.Gen.ReferenceIdeal.Read

@[expose] public section

set_option maxRecDepth 16384

noncomputable section

namespace Cert.RefWords

open Idealize.ShloMosaic Idealize.ShloMosaic.Pipeline Cert.ReferenceIdeal Cert.ReferenceIdeal.Gen Cert.ReferenceIdeal.Read Cert.Words

variable {F : FTy → Type} [FloatOps F]

/-- Five groups, each from the one before, are the block function. -/
theorem chain {k0 k1 n : BitVec 32} {p a b c d e : BitVec 32 × BitVec 32} (hp : p = (0#32 + k0, n + k1))
    (ha : a = inject k1 (third k0 k1) 1#32 (even p)) (hb : b = inject (third k0 k1) k0 2#32 (odd a))
    (hc : c = inject k0 k1 3#32 (even b)) (hd : d = inject k1 (third k0 k1) 4#32 (odd c))
    (he : e = inject (third k0 k1) k0 5#32 (even d)) : e = block k0 k1 0#32 n := by
  subst hp ha hb hc hd he; rfl

/-- The split of the seed's key. -/
theorem seed_split (i : S2.Idx) : (val_main_v185 (F := F) i, val_main_v189 (F := F) i)
    = block (val_main_v16 (F := F) i) (val_main_v18 (F := F) i) 0#32 (val_main_v8 (F := F) i) :=
  chain (p := (val_main_v17 (F := F) i, val_main_v19 (F := F) i)) (a := (val_main_v49 (F := F) i, val_main_v53 (F := F) i))
    (b := (val_main_v83 (F := F) i, val_main_v87 (F := F) i)) (c := (val_main_v117 (F := F) i, val_main_v121 (F := F) i))
    (d := (val_main_v151 (F := F) i, val_main_v155 (F := F) i)) rfl rfl rfl rfl rfl rfl

/-- The split of the tokens' key. -/
theorem noise_split (i : S2.Idx) : (val_main_v387 (F := F) i, val_main_v391 (F := F) i)
    = block (val_main_v218 (F := F) i) (val_main_v220 (F := F) i) 0#32 (val_main_v210 (F := F) i) :=
  chain (p := (val_main_v219 (F := F) i, val_main_v221 (F := F) i)) (a := (val_main_v251 (F := F) i, val_main_v255 (F := F) i))
    (b := (val_main_v285 (F := F) i, val_main_v289 (F := F) i)) (c := (val_main_v319 (F := F) i, val_main_v323 (F := F) i))
    (d := (val_main_v353 (F := F) i, val_main_v357 (F := F) i)) rfl rfl rfl rfl rfl rfl

/-- The tokens' words. -/
theorem tokens (i : S128x4096.Idx) : (val_main_v775 (F := F) i, val_main_v779 (F := F) i)
    = block (val_main_v606 (F := F) i) (val_main_v608 (F := F) i) 0#32 (val_main_v598 (F := F) i) :=
  chain (p := (val_main_v607 (F := F) i, val_main_v609 (F := F) i)) (a := (val_main_v639 (F := F) i, val_main_v643 (F := F) i))
    (b := (val_main_v673 (F := F) i, val_main_v677 (F := F) i)) (c := (val_main_v707 (F := F) i, val_main_v711 (F := F) i))
    (d := (val_main_v741 (F := F) i, val_main_v745 (F := F) i)) rfl rfl rfl rfl rfl rfl

/-- The uniforms' words. -/
theorem uniforms (i : S128x4096.Idx) : (val_main_v1003 (F := F) i, val_main_v1007 (F := F) i)
    = block (val_main_v834 (F := F) i) (val_main_v836 (F := F) i) 0#32 (val_main_v826 (F := F) i) :=
  chain (p := (val_main_v835 (F := F) i, val_main_v837 (F := F) i)) (a := (val_main_v867 (F := F) i, val_main_v871 (F := F) i))
    (b := (val_main_v901 (F := F) i, val_main_v905 (F := F) i)) (c := (val_main_v935 (F := F) i, val_main_v939 (F := F) i))
    (d := (val_main_v969 (F := F) i, val_main_v973 (F := F) i)) rfl rfl rfl rfl rfl rfl

/-! ## The keys -/

/-- Element `r` of an array of two. -/
def at2 (r : Fin 2) : S2.Idx := fun a => match a with | ⟨0, _⟩ => r

/-- The only index of an array of one. -/
def zero1 : S1.Idx := fun a => match a with | ⟨0, _⟩ => ⟨0, Nat.one_pos⟩

theorem sub1 (x y : S1.Idx) : x = y := funext fun a => by
  fin_cases a; exact Subsingleton.elim (α := Fin 1) _ _

/-- A pair of words taken apart: the reshape of an element, cut out of the array of two, to a scalar. -/
theorem part_apply {α : Type} (c : Fin 2) (x : S2.Idx → α) (h3 : S2.Slices ![c.val] S1) (h4 : S1.ShapeCasts S_) (j : S_.Idx) :
    shapeCast S_ (extractStridedSlice S1 ![c.val] x h3) h4 j = x (at2 c) := by
  unfold shapeCast
  refine congrArg x (funext fun a => ?_)
  fin_cases a
  apply Fin.ext
  rw [sub1 ((Shape.reshapeEquiv h4) j) zero1]
  show c.val + 0 = c.val
  omega

/-- A row of the array of key words that a split gives: its elements are the block function's first and second word at
    that row. -/
theorem row_apply {α : Type} (r c : Fin 2) (A B : S2.Idx → α) (hb : S2.BroadcastsInDim S2x1 ![0])
    (hc : Shape.Concatenates [S2x1, S2x1] S2x2 1) (h1 : S2x2.Slices ![r.val, 0] S1x2) (h2 : S1x2.ShapeCasts S2) :
    shapeCast S2 (extractStridedSlice S1x2 ![r.val, 0] (concatenate S2x2 1
        [⟨S2x1, broadcastInDim S2x1 ![0] hb A⟩, ⟨S2x1, broadcastInDim S2x1 ![0] hb B⟩] hc) h1) h2 (at2 c)
      = if c = 0 then A (at2 r) else B (at2 r) := by
  rw [shapeCast_apply _ h2 (at2 c) (fun a => match a with | ⟨0, _⟩ => ⟨0, Nat.one_pos⟩ | ⟨1, _⟩ => c) (by fin_cases c <;> decide)]
  unfold extractStridedSlice
  fin_cases c
  · refine (concatenate_pair_apply_left 1 _ _ hc _ rfl (fun a => match a with | ⟨0, _⟩ => r | ⟨1, _⟩ => ⟨0, Nat.one_pos⟩) ?_).trans ?_
    · intro b; fin_cases b <;> simp
    · refine congrArg A (funext fun a => ?_)
      fin_cases a; rfl
  · refine (concatenate_pair_apply_right 1 _ _ hc _ rfl rfl (fun a => match a with | ⟨0, _⟩ => r | ⟨1, _⟩ => ⟨0, Nat.one_pos⟩) ?_ ?_).trans ?_
    · intro b; fin_cases b <;> simp
    · rfl
    · refine congrArg B (funext fun a => ?_)
      fin_cases a; rfl

theorem seed_at0 : val_main_v3 (F := F) (at2 0) = 0#32 :=
  concatenate_pair_apply_left 0 _ _ concatenates_S1_S1_S2_d0 _ rfl zero1 (by intro b; fin_cases b; rfl)
theorem seed_at1 : val_main_v3 (F := F) (at2 1) = 42#32 :=
  concatenate_pair_apply_right 0 _ _ concatenates_S1_S1_S2_d0 _ rfl rfl zero1
    (by intro b; fin_cases b; simp) rfl

theorem seed_key0 (i : S2.Idx) : val_main_v16 (F := F) i = 0#32 :=
  (part_apply 0 (val_main_v3 (F := F)) slices_S2_S1_0 shapeCasts_S1_S_ _).trans seed_at0
theorem seed_key1 (i : S2.Idx) : val_main_v18 (F := F) i = 42#32 :=
  (part_apply 1 (val_main_v3 (F := F)) slices_S2_S1_1 shapeCasts_S1_S_ _).trans seed_at1

/-- A split's result at a row, from the keys and the counter at that row. -/
theorem split_at {k0 k1 c a b u v : BitVec 32} {p : BitVec 32 × BitVec 32} (h : (a, b) = block k0 k1 0#32 c)
    (h0 : k0 = u) (h1 : k1 = v) {n : BitVec 32} (hc : c = n) (hp : block u v 0#32 n = p) : a = p.1 ∧ b = p.2 := by
  subst h0 h1 hc hp
  exact ⟨congrArg Prod.fst h, congrArg Prod.snd h⟩

theorem seed_count (r : Fin 2) : val_main_v8 (F := F) (at2 r) = BitVec.ofNat 32 r := by
  show 0#32 * 2#32 + BitVec.ofNat 32 r = BitVec.ofNat 32 r
  rw [BitVec.zero_mul, BitVec.zero_add]
theorem noise_count (r : Fin 2) : val_main_v210 (F := F) (at2 r) = BitVec.ofNat 32 r := by
  show 0#32 * 2#32 + BitVec.ofNat 32 r = BitVec.ofNat 32 r
  rw [BitVec.zero_mul, BitVec.zero_add]

/-- The tokens' key, -/
theorem tokens_key : val_main_v185 (F := F) (at2 0) = 1832780943#32 ∧ val_main_v189 (F := F) (at2 0) = 270669613#32 :=
  split_at (seed_split (at2 0)) (seed_key0 _) (seed_key1 _) (seed_count 0) split_seed.1
/-- and the uniforms'. -/
theorem uniforms_key : val_main_v185 (F := F) (at2 1) = 64467757#32 ∧ val_main_v189 (F := F) (at2 1) = 2916123636#32 :=
  split_at (seed_split (at2 1)) (seed_key0 _) (seed_key1 _) (seed_count 1) split_seed.2

theorem noise_key0 (i : S2.Idx) : val_main_v218 (F := F) i = 1832780943#32 :=
  ((part_apply 0 (val_main_v194 (F := F)) slices_S2_S1_0 shapeCasts_S1_S_ _).trans
    (row_apply 0 0 (val_main_v185 (F := F)) (val_main_v189 (F := F)) bcast_S2_S2x1_0 concatenates_S2x1_S2x1_S2x2_d1
      slices_S2x2_S1x2_0_0 shapeCasts_S1x2_S2)).trans tokens_key.1
theorem noise_key1 (i : S2.Idx) : val_main_v220 (F := F) i = 270669613#32 :=
  ((part_apply 1 (val_main_v194 (F := F)) slices_S2_S1_1 shapeCasts_S1_S_ _).trans
    (row_apply 0 1 (val_main_v185 (F := F)) (val_main_v189 (F := F)) bcast_S2_S2x1_0 concatenates_S2x1_S2x1_S2x2_d1
      slices_S2x2_S1x2_0_0 shapeCasts_S1x2_S2)).trans tokens_key.2

/-- The key of the tokens' lower words. -/
theorem lower_key : val_main_v387 (F := F) (at2 1) = 1705926158#32 ∧ val_main_v391 (F := F) (at2 1) = 899080142#32 :=
  split_at (noise_split (at2 1)) (noise_key0 _) (noise_key1 _) (noise_count 1) split_noise

theorem lower_key0 (i : S128x4096.Idx) : val_main_v606 (F := F) i = 1705926158#32 :=
  ((part_apply 0 (val_main_v398 (F := F)) slices_S2_S1_0 shapeCasts_S1_S_ _).trans
    (row_apply 1 0 (val_main_v387 (F := F)) (val_main_v391 (F := F)) bcast_S2_S2x1_0 concatenates_S2x1_S2x1_S2x2_d1
      slices_S2x2_S1x2_1_0 shapeCasts_S1x2_S2)).trans lower_key.1
theorem lower_key1 (i : S128x4096.Idx) : val_main_v608 (F := F) i = 899080142#32 :=
  ((part_apply 1 (val_main_v398 (F := F)) slices_S2_S1_1 shapeCasts_S1_S_ _).trans
    (row_apply 1 1 (val_main_v387 (F := F)) (val_main_v391 (F := F)) bcast_S2_S2x1_0 concatenates_S2x1_S2x1_S2x2_d1
      slices_S2x2_S1x2_1_0 shapeCasts_S1x2_S2)).trans lower_key.2

theorem uniforms_key0 (i : S128x4096.Idx) : val_main_v834 (F := F) i = 64467757#32 :=
  ((part_apply 0 (val_main_v196 (F := F)) slices_S2_S1_0 shapeCasts_S1_S_ _).trans
    (row_apply 1 0 (val_main_v185 (F := F)) (val_main_v189 (F := F)) bcast_S2_S2x1_0 concatenates_S2x1_S2x1_S2x2_d1
      slices_S2x2_S1x2_1_0 shapeCasts_S1x2_S2)).trans uniforms_key.1
theorem uniforms_key1 (i : S128x4096.Idx) : val_main_v836 (F := F) i = 2916123636#32 :=
  ((part_apply 1 (val_main_v196 (F := F)) slices_S2_S1_1 shapeCasts_S1_S_ _).trans
    (row_apply 1 1 (val_main_v185 (F := F)) (val_main_v189 (F := F)) bcast_S2_S2x1_0 concatenates_S2x1_S2x1_S2x2_d1
      slices_S2x2_S1x2_1_0 shapeCasts_S1x2_S2)).trans uniforms_key.2

/-! ## The words -/

/-- The row-major position of an element of the result, a word. -/
def position (i : S128x4096.Idx) : BitVec 32 := BitVec.ofNat 32 (i 0).val * 4096#32 + BitVec.ofNat 32 (i 1).val

theorem tokens_count (i : S128x4096.Idx) : val_main_v598 (F := F) i = position i := by
  show (0#32 * 128#32 + BitVec.ofNat 32 (i 0).val) * 4096#32 + BitVec.ofNat 32 (i 1).val = position i
  rw [BitVec.zero_mul, BitVec.zero_add]; rfl
theorem uniforms_count (i : S128x4096.Idx) : val_main_v826 (F := F) i = position i := by
  show (0#32 * 128#32 + BitVec.ofNat 32 (i 0).val) * 4096#32 + BitVec.ofNat 32 (i 1).val = position i
  rw [BitVec.zero_mul, BitVec.zero_add]; rfl

theorem tokens_word (i : S128x4096.Idx) : val_main_v780 (F := F) i = word 1705926158#32 899080142#32 (position i) := by
  have h := tokens (F := F) i
  rw [lower_key0, lower_key1, tokens_count] at h
  exact congrArg (fun p : BitVec 32 × BitVec 32 => p.1 ^^^ p.2) h

theorem uniforms_word (i : S128x4096.Idx) : val_main_v1008 (F := F) i = word 64467757#32 2916123636#32 (position i) := by
  have h := uniforms (F := F) i
  rw [uniforms_key0, uniforms_key1, uniforms_count] at h
  exact congrArg (fun p : BitVec 32 × BitVec 32 => p.1 ^^^ p.2) h

end Cert.RefWords

end
-- ==== Proof.Arith.lean ====
/-
  The two pieces of arithmetic in which the kernel and the problem differ (hand-written, untrusted), each over words and
  extended reals: the remainder by the size of the vocabulary, which the kernel takes by a float multiplication and one
  correction, and the comparison of a uniform with a probability, which the kernel makes on integers.
-/
module

public import Idealize.ShloMosaic.PureOps
public import Idealize.ShloMosaic.PureOps.Ideal
public import Idealize.ShloMosaic.PureOps.Ideal.Laws

@[expose] public section

noncomputable section

namespace Cert.Arith

open Idealize.ShloMosaic

/-! ## The remainder -/

/-- The kernel's factor: a little over `1 / 100000`. -/
theorem factor : Ideal.ofBits .f32 0x3727C5B7#32 = ((10995127 / 2 ^ 40 : ℝ) : EReal) := by
  simp [Ideal.ofBits, Ideal.ieee, -EReal.coe_mul]; norm_num

/-- The kernel's factor of the thresholds: `2 ^ 23`. -/
theorem scale : Ideal.ofBits .f32 0x4B000000#32 = ((2 ^ 23 : ℝ) : EReal) := by
  have h : Ideal.ofBits .f32 0x4B000000#32 = ((8388608 : ℝ) : EReal) := by
    simp [Ideal.ofBits, Ideal.ieee, -EReal.coe_mul]
  rw [h]; norm_num

theorem one : Ideal.ofBits .f32 0x3F800000#32 = ((1 : ℝ) : EReal) := by
  simp [Ideal.ofBits, Ideal.ieee, -EReal.coe_mul]; norm_num

/-- The kernel's quotient, a natural number. -/
theorem quotient (b : BitVec 32) :
    Ideal.fptoui 32 (((b.toNat : ℝ) : EReal) * Ideal.ofBits .f32 0x3727C5B7#32)
      = BitVec.ofNat 32 (b.toNat * 10995127 / 2 ^ 40) := by
  have hb := b.isLt
  have e : ((b.toNat : ℝ) : EReal) * Ideal.ofBits .f32 0x3727C5B7#32
      = (((b.toNat * 10995127 : ℕ) : ℝ) / ((2 ^ 40 : ℕ) : ℝ) : ℝ) := by
    rw [factor, ← EReal.coe_mul]; congr 1; push_cast; ring
  rw [e]
  show BitVec.ofInt 32 (max 0 (min (((2 ^ 32 : ℕ) : ℤ) - 1) (if (0 : ℝ) ≤ _ then _ else _))) = _
  rw [if_pos (by positivity)]
  have hf : ⌊(((b.toNat * 10995127 : ℕ) : ℝ) / ((2 ^ 40 : ℕ) : ℝ))⌋ = ((b.toNat * 10995127 / 2 ^ 40 : ℕ) : ℤ) := by
    rw [Int.floor_div_natCast, Int.floor_natCast, Int.natCast_div]
  rw [hf]
  have h2 : max (0 : ℤ) (min (((2 ^ 32 : ℕ) : ℤ) - 1) ((b.toNat * 10995127 / 2 ^ 40 : ℕ) : ℤ))
      = ((b.toNat * 10995127 / 2 ^ 40 : ℕ) : ℤ) := by omega
  rw [h2, BitVec.ofInt_natCast]

/-- That quotient is the true one or the next number. -/
theorem quotient_near (b : ℕ) (hb : b < 2 ^ 32) :
    b * 10995127 / 2 ^ 40 = b / 100000 ∨ b * 10995127 / 2 ^ 40 = b / 100000 + 1 := by omega

/-- One correction after subtracting a multiple that is right or one too many. -/
theorem corrected (b : BitVec 32) (d e q : ℕ) (hb : b.toNat = 100000 * d + e) (he : e < 100000) (hq : q = d ∨ q = d + 1) :
    Scalar.select (IntOp.cmpi .uge (b - BitVec.ofNat 32 q * 100000#32) 2147483648#32)
      (b - BitVec.ofNat 32 q * 100000#32 + 100000#32) (b - BitVec.ofNat 32 q * 100000#32) = BitVec.ofNat 32 e := by
  have hb2 := b.isLt
  have hb3 : b = BitVec.ofNat 32 (100000 * d) + BitVec.ofNat 32 e := by
    rw [← BitVec.ofNat_add, ← hb, BitVec.ofNat_toNat, BitVec.setWidth_eq]
  rcases hq with rfl | rfl
  · have hdiff : b - BitVec.ofNat 32 q * 100000#32 = BitVec.ofNat 32 e := by
      rw [show BitVec.ofNat 32 q * 100000#32 = BitVec.ofNat 32 (100000 * q) from by
        rw [Nat.mul_comm, BitVec.ofNat_mul], hb3, BitVec.add_comm, BitVec.add_sub_cancel]
    rw [hdiff]
    have hc : (2147483648#32).ule (BitVec.ofNat 32 e) = false := by
      simp only [BitVec.ule, BitVec.toNat_ofNat, decide_eq_false_iff_not]; omega
    simp only [IntOp.cmpi, hc]; rfl
  · have hdiff : b - BitVec.ofNat 32 (d + 1) * 100000#32 = BitVec.ofNat 32 e - 100000#32 := by
      rw [show BitVec.ofNat 32 (d + 1) * 100000#32 = BitVec.ofNat 32 (100000 * d) + 100000#32 from by
        rw [show (100000#32 : BitVec 32) = BitVec.ofNat 32 100000 from rfl, ← BitVec.ofNat_mul, ← BitVec.ofNat_add]
        congr 1; ring, hb3]
      simp only [BitVec.sub_eq_add_neg, BitVec.neg_add]
      rw [show ∀ x y z : BitVec 32, x + y + (-x + -z) = (x + -x) + (y + -z) from fun x y z => by ac_rfl,
        BitVec.add_right_neg, BitVec.zero_add]
    rw [hdiff]
    have hc : (2147483648#32).ule (BitVec.ofNat 32 e - 100000#32) = true := by
      simp only [BitVec.ule, BitVec.toNat_ofNat, BitVec.toNat_sub, decide_eq_true_iff]; omega
    simp only [IntOp.cmpi, hc]
    exact BitVec.sub_add_cancel _ _

/-- The kernel's remainder: the difference, with the divisor added back where it wrapped below zero. -/
theorem remainder (b : BitVec 32) :
    Scalar.select (IntOp.cmpi .uge
        (b - Ideal.fptoui 32 (((b.toNat : ℝ) : EReal) * Ideal.ofBits .f32 0x3727C5B7#32) * 100000#32) 2147483648#32)
      (b - Ideal.fptoui 32 (((b.toNat : ℝ) : EReal) * Ideal.ofBits .f32 0x3727C5B7#32) * 100000#32 + 100000#32)
      (b - Ideal.fptoui 32 (((b.toNat : ℝ) : EReal) * Ideal.ofBits .f32 0x3727C5B7#32) * 100000#32)
      = b % 100000#32 := by
  rw [quotient, corrected b (b.toNat / 100000) (b.toNat % 100000) _ (Nat.div_add_mod _ _).symm
    (Nat.mod_lt _ (by norm_num)) (quotient_near _ b.isLt)]
  apply BitVec.eq_of_toNat_eq
  rw [BitVec.toNat_umod, BitVec.toNat_ofNat, Nat.mod_eq_of_lt]
  · rfl
  · exact lt_of_le_of_lt (Nat.mod_le _ _) b.isLt

/-! ## The uniform and the threshold -/

/-- The float whose bits are those of one with a word's upper 23 bits for its fraction. -/
theorem unit_bits (w : BitVec 32) :
    Ideal.ofBits .f32 (w >>> 9#32 ||| 1065353216#32) = ((1 + ((w >>> 9#32).toNat : ℝ) / 2 ^ 23 : ℝ) : EReal) := by
  have hw := w.isLt
  have hs : (w >>> 9#32).toNat = w.toNat / 2 ^ 9 := by simp [Nat.shiftRight_eq_div_pow]
  have hn : (w >>> 9#32 ||| 1065353216#32).toNat = 2 ^ 23 * 127 + w.toNat / 2 ^ 9 := by
    rw [BitVec.toNat_or, hs, Nat.or_comm, Nat.two_pow_add_eq_or_of_lt (by omega) 127]; rfl
  generalize hv : w >>> 9#32 ||| 1065353216#32 = v at hn ⊢
  rw [hs]
  have h1 : (v.extractLsb' 31 1 == 1#1) = false := by
    have : v.extractLsb' 31 1 = 0#1 := by
      apply BitVec.eq_of_toNat_eq; rw [BitVec.extractLsb'_toNat, hn, Nat.shiftRight_eq_div_pow]; simp; omega
    rw [this]; rfl
  have h2 : (v.extractLsb' 23 8).toNat = 127 := by
    rw [BitVec.extractLsb'_toNat, hn, Nat.shiftRight_eq_div_pow]; omega
  have h3 : (v.extractLsb' 0 23).toNat = w.toNat / 2 ^ 9 := by
    rw [BitVec.extractLsb'_toNat, hn]; simp; omega
  show Ideal.ieee 8 23 v = _
  unfold Ideal.ieee
  simp only [show (8 + 23 : ℕ) = 31 from rfl, h1, h2, h3]
  rw [if_neg (by norm_num), if_neg (by norm_num)]
  congr 1
  simp only [Bool.false_eq_true, if_false]
  rw [show (((127 : ℕ) : ℤ) - (2 ^ (8 - 1) - 1) - ((23 : ℕ) : ℤ)) = -23 from by norm_num]
  rw [zpow_neg, show (2 : ℝ) ^ (23 : ℤ) = 2 ^ 23 from by norm_cast]
  push_cast
  field_simp
  norm_num

/-- The uniform of a word: the reference's, with its scaling to the interval from zero to one. -/
theorem uniform (w : BitVec 32) :
    max (Ideal.ofBits .f32 0#32) ((Ideal.ofBits .f32 (w >>> 9#32 ||| 1065353216#32) - Ideal.ofBits .f32 0x3F800000#32)
        * (Ideal.ofBits .f32 0x3F800000#32 - Ideal.ofBits .f32 0#32) + Ideal.ofBits .f32 0#32)
      = ((((w >>> 9#32).toNat : ℝ) / 2 ^ 23 : ℝ) : EReal) := by
  have z : Ideal.ofBits .f32 0#32 = ((0 : ℝ) : EReal) := Ideal.ofBits_zero_f32
  rw [unit_bits, one, z]
  simp only [← EReal.coe_sub, ← EReal.coe_mul, ← EReal.coe_add]
  have e : (1 + ((w >>> 9#32).toNat : ℝ) / 2 ^ 23 - 1) * (1 - 0) + 0 = ((w >>> 9#32).toNat : ℝ) / 2 ^ 23 := by ring
  rw [e, max_eq_right]
  exact EReal.coe_le_coe_iff.2 (by positivity)

/-- A number of 23 bits lies below the threshold of a probability exactly when, divided by `2 ^ 23`, it lies below it. -/
theorem below (m : BitVec 32) (hm : m.toNat < 2 ^ 23) (a : EReal) :
    IntOp.cmpi .ult m (Ideal.fptoui 32 (Ideal.liftRound Int.ceil (a * Ideal.ofBits .f32 0x4B000000#32)))
      = Ideal.cmp .olt (((m.toNat : ℝ) / 2 ^ 23 : ℝ) : EReal) a := by
  rw [scale]
  show BitVec.ofBool (m.ult _) = BitVec.ofBool (decide (_ < a))
  congr 1
  have hp : (0 : ℝ) < 2 ^ 23 := by norm_num
  induction a using EReal.rec with
  | bot =>
    rw [EReal.bot_mul_coe_of_pos hp]
    have h : m.ult (BitVec.ofInt 32 0) = false := by simp [BitVec.ult]
    rw [show Ideal.fptoui 32 (Ideal.liftRound Int.ceil ⊥) = BitVec.ofInt 32 0 from rfl, h]
    simp
  | top =>
    rw [EReal.top_mul_coe_of_pos hp]
    rw [show Ideal.fptoui 32 (Ideal.liftRound Int.ceil ⊤) = BitVec.ofInt 32 (((2 ^ 32 : ℕ) : ℤ) - 1) from rfl]
    have h : m.ult (BitVec.ofInt 32 (((2 ^ 32 : ℕ) : ℤ) - 1)) = true := by
      rw [show BitVec.ofInt 32 (((2 ^ 32 : ℕ) : ℤ) - 1) = 4294967295#32 from by decide]
      simp [BitVec.ult]; omega
    rw [h]
    simp [EReal.coe_lt_top]
  | coe r =>
    rw [← EReal.coe_mul]
    have e : Ideal.fptoui 32 (Ideal.liftRound Int.ceil ((r * 2 ^ 23 : ℝ) : EReal))
        = BitVec.ofInt 32 (max 0 (min (((2 ^ 32 : ℕ) : ℤ) - 1) ⌈r * 2 ^ 23⌉)) := by
      show BitVec.ofInt 32 (max 0 (min (((2 ^ 32 : ℕ) : ℤ) - 1) (if (0 : ℝ) ≤ ((⌈r * 2 ^ 23⌉ : ℤ) : ℝ) then _ else _))) = _
      rw [Int.floor_intCast, Int.ceil_intCast, ite_self]
    rw [e]
    set c := ⌈r * 2 ^ 23⌉ with hc
    obtain ⟨k, hk⟩ : ∃ k : ℕ, max (0 : ℤ) (min (((2 ^ 32 : ℕ) : ℤ) - 1) c) = (k : ℤ) :=
      ⟨(max (0 : ℤ) (min (((2 ^ 32 : ℕ) : ℤ) - 1) c)).toNat, by omega⟩
    rw [hk, BitVec.ofInt_natCast]
    have hk2 : k < 2 ^ 32 := by omega
    have hiff : (m.toNat < k) ↔ ((m.toNat : ℝ) / 2 ^ 23 < r) := by
      rw [div_lt_iff₀ hp, show ((m.toNat : ℝ) < r * 2 ^ 23) ↔ ((m.toNat : ℤ) < c) from by
        rw [hc, Int.lt_ceil]; simp]
      omega
    rw [Bool.eq_iff_iff, decide_eq_true_iff, EReal.coe_lt_coe_iff, ← hiff]
    rw [BitVec.ult, BitVec.toNat_ofNat, Nat.mod_eq_of_lt hk2, decide_eq_true_iff]

end Cert.Arith

end
-- ==== Proof.RefValue.lean ====
/-
  The reference's result, element by element (hand-written, untrusted): the token kept where the uniform is below the
  step's probability, and the random token elsewhere.
-/
module

public import proofs.«01_k».proof.Proof.RefWords
public import proofs.«01_k».proof.Proof.Arith
public import Idealize.ShloMosaic.Lib.ValueIdxCore

@[expose] public section

noncomputable section

namespace Cert.RefValue

open Idealize.ShloMosaic Idealize.ShloMosaic.Pipeline Idealize.ShloMosaic.ValueIdx Cert.ReferenceIdeal Cert.ReferenceIdeal.Gen Cert.ReferenceIdeal.Read
  Cert.Words Cert.RefWords

/-! ## The statement -/

/-- The row of an element, -/
def row (i : S128x4096.Idx) : S128.Idx := ix1 ⟨(i 0).val, (i 0).isLt⟩
/-- and the entry of the schedule at a step. -/
def entry (t : BitVec 32) : S1000.Idx := ix1 ⟨min t.toInt.toNat 999, by omega⟩

/-- The uniform at an element: 23 bits of its word, a multiple of `2 ^ -23` below one. -/
def unif (i : S128x4096.Idx) : EReal :=
  (((word 64467757#32 2916123636#32 (position i) >>> 9#32).toNat : ℝ) / 2 ^ 23 : ℝ)

/-- The random token at an element. -/
def token (i : S128x4096.Idx) : BitVec 32 := word 1705926158#32 899080142#32 (position i) % 100000#32

/-- The corrupted tokens. -/
def result (x : IVec S128x4096 32) (t : IVec S128 32) (a : FVec Ideal S1000 .f32) : IVec S128x4096 32 :=
  fun i => Scalar.select (Ideal.cmp .olt (unif i) (a (entry (t (row i))))) (x i) (token i)

/-! ## The random tokens -/

theorem low (i : S1x1.Idx) : val_main_v204 (F := Ideal) i = 0#32 := by
  rw [val_main_v204_apply, val_main_v201_apply, val_main_v200_apply]
  simp only [val_main_c_54_apply, val_main_c_55_apply, val_main_c_56_apply]
  decide
theorem high (i : S1x1.Idx) : val_main_v205 (F := Ideal) i = 100000#32 := by
  rw [val_main_v205_apply, val_main_v203_apply, val_main_v202_apply]
  simp only [val_main_c_57_apply, val_main_c_58_apply, val_main_c_59_apply]
  decide
theorem no_overflow (i : S_.Idx) : val_main_v199 (F := Ideal) i = 0#1 := by
  rw [val_main_v199_apply, val_main_v198_apply, val_main_v197_apply]
  simp only [val_main_c_50_apply, val_main_c_51_apply, val_main_c_52_apply, val_main_c_53_apply]
  decide

theorem span (i : S1x1.Idx) : val_main_v791 (F := Ideal) i = 100000#32 := by
  rw [val_main_v791_apply, val_main_v790_apply, val_main_v789_apply, val_main_v788_apply, val_main_v787_apply,
    val_main_v786_apply, val_main_v785_apply, val_main_v784_apply, val_main_v783_apply, val_main_v782_apply,
    val_main_v781_apply, low, high, no_overflow]
  simp only [val_main_c_209_apply, val_main_c_210_apply]
  decide
theorem upper_factor (i : S1x1.Idx) : val_main_v795 (F := Ideal) i = 0#32 := by
  rw [val_main_v795_apply, val_main_v794_apply, val_main_v793_apply, span, val_main_v792_apply, val_main_c_211_apply]
  decide

/-- The remainder of the upper word times zero plus the lower word's remainder. -/
theorem combined (u w : BitVec 32) :
    IntOp.addi 0#32 (IntOp.remui .host (IntOp.addi (IntOp.muli u 0#32) (IntOp.remui .host w 100000#32)) 100000#32)
      = w % 100000#32 := by
  show 0#32 + (u * 0#32 + w % 100000#32) % 100000#32 = w % 100000#32
  rw [BitVec.zero_add, BitVec.mul_zero, BitVec.zero_add]
  apply BitVec.eq_of_toNat_eq
  rw [BitVec.toNat_umod, BitVec.toNat_umod, Nat.mod_mod]

theorem lower (i : S128x4096.Idx) : val_main_v802 (F := Ideal) i
    = IntOp.addi (IntOp.muli (val_main_v797 (F := Ideal) i) 0#32)
        (IntOp.remui .host (word 1705926158#32 899080142#32 (position i)) 100000#32) := by
  rw [val_main_v802_apply, val_main_v799_apply, val_main_v798_apply, upper_factor, val_main_v801_apply,
    val_main_v800_apply, span, tokens_word]

theorem random_token (i : S128x4096.Idx) : val_main_v807 (F := Ideal) i = token i := by
  refine Eq.trans ?_ (combined (val_main_v797 (F := Ideal) i) (word 1705926158#32 899080142#32 (position i)))
  rw [val_main_v807_apply, val_main_v806_apply, low, val_main_v805_apply, val_main_v804_apply, val_main_v803_apply, span,
    lower]

/-! ## The uniforms -/

theorem uniform_eq (i : S128x4096.Idx) : val_main_v1022 (F := Ideal) i = unif i := by
  rw [val_main_v1022_apply, val_main_v1021_apply, val_main_v1020_apply, val_main_v1019_apply, val_main_v1018_apply,
    val_main_v1017_apply, val_main_v1016_apply, val_main_v1015_apply, val_main_v1014_apply, val_main_v1013_apply,
    val_main_v1012_apply, val_main_v1011_apply, val_main_v1010_apply, val_main_v1009_apply, uniforms_word]
  simp only [val_main_v816_apply, val_main_v817_apply, val_main_cst_apply, val_main_cst_214_apply, val_main_cst_267_apply,
    val_main_c_265_apply, val_main_c_266_apply]
  unfold unif
  generalize word _ _ _ = w
  exact Arith.uniform w

/-! ## The probabilities -/

/-- The schedule's entry at a step that isn't negative. -/
theorem wrapped (t : IVec S128 32) (j : S128.Idx) (ht : (t j).toNat < 1000) : val_main_v812 (F := Ideal) t j = t j := by
  have h0 : val_main_v809 (F := Ideal) t j = 0#1 := by
    show BitVec.ofBool ((t j).slt 0#32) = 0#1
    have : (t j).slt 0#32 = false := by
      rw [BitVec.slt_eq_decide, decide_eq_false_iff_not, BitVec.toInt_eq_toNat_of_lt (by omega)]
      simp
    rw [this]; rfl
  rw [val_main_v812_apply, h0]; rfl

theorem gathered (t : IVec S128 32) (a : FVec Ideal S1000 .f32) (j : S128.Idx) (ht : (t j).toNat < 1000) :
    val_main_v814 (F := Ideal) t a j = a (entry (t j)) := by
  have hs : val_main_v813 (F := Ideal) t (ix2 (j 0) ⟨0, Nat.one_pos⟩) = t j := by
    rw [val_main_v813_apply]
    refine (congrArg _ ?_).trans (wrapped t j ht)
    funext b; fin_cases b; rfl
  unfold val_main_v814
  generalize val_main_v813 (F := Ideal) t = s at hs
  unfold Host.gather
  congr 1
  funext b
  obtain rfl : b = 0 := Subsingleton.elim _ _
  refine Fin.ext ?_
  show GatherDims.start gather_S1000_S128x1_S128_n_0_n_n_0_1_1 j s 0 + GatherDims.batchCoord _ j 0
    + GatherDims.offCoord _ j 0 = min (t j).toInt.toNat 999
  rw [GatherDims.batchCoord_eq_zero _ _ _ List.not_mem_nil,
    GatherDims.offCoord_eq_zero _ _ _ (fun h => ((GatherDims.mem_sKept _ _).mp h).1 (List.mem_singleton.mpr rfl))]
  show GatherDims.start gather_S1000_S128x1_S128_n_0_n_n_0_1_1 j s 0 = _
  have hi : GatherDims.siIdx gather_S1000_S128x1_S128_n_0_n_n_0_1_1 j
      ⟨List.idxOf (0 : Fin 1) gather_S1000_S128x1_S128_n_0_n_n_0_1_1.startIndexMap,
        List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  unfold GatherDims.start
  rw [dif_pos (show (0 : Fin 1) ∈ gather_S1000_S128x1_S128_n_0_n_n_0_1_1.startIndexMap from List.mem_singleton.mpr rfl), hi]
  exact congrArg (fun v : BitVec 32 => min v.toInt.toNat 999) hs

theorem probability (t : IVec S128 32) (a : FVec Ideal S1000 .f32) (i : S128x4096.Idx) (ht : (t (row i)).toNat < 1000) :
    val_main_v1023 (F := Ideal) t a i = a (entry (t (row i))) := by
  rw [val_main_v1023_apply, val_main_v815_apply, ← gathered t a (row i) ht]
  congr 1
  funext b
  obtain rfl : b = 0 := Subsingleton.elim _ _
  exact Fin.ext (by show (i 0).val * 1 + 0 = (i 0).val; omega)

/-! ## The result -/

theorem value (x : IVec S128x4096 32) (t : IVec S128 32) (a : FVec Ideal S1000 .f32) (ht : ∀ j, (t j).toNat < 1000) :
    val_main_v1025 (F := Ideal) x t a = result x t a := by
  funext i
  rw [val_main_v1025_apply, val_main_v1024_apply, uniform_eq, probability t a i (ht _), random_token]; rfl

end Cert.RefValue

end
-- ==== Proof.Payload.lean ====
/-
  The random words the second kernel computes, element by element (hand-written, untrusted): each printed run of its
  arithmetic, over arrays, is at an index the run of rounds on the pair of words there, and the whole is the generator's
  word at the element's position under the key of the tokens or that of the uniforms.
-/
module

public import proofs.«01_k».proof.Proof.Words
public import proofs.«01_k».proof.Proof.Gen.KernelIdeal.Frame

@[expose] public section

set_option maxRecDepth 16384

noncomputable section

namespace Cert.Payload

open Idealize.ShloMosaic Cert.KernelIdeal Cert.KernelIdeal.Gen Cert.Words

variable {F : FTy → Type} [FloatOps F]

/-- A pair of words at every element of a block. -/
abbrev Pairs : Type := S8x512.Idx → BitVec 32 × BitVec 32

/-- What is handed from one run to the next between two rounds: the second words, -/
def snds (P : Pairs) : IVec S8x512 32 := fun y => (P y).2
/-- the sums the next round begins with, -/
def sums (P : Pairs) : IVec S8x512 32 := fun y => (P y).1 + (P y).2
/-- the second words shifted left, -/
def lefts (l : BitVec 32) (P : Pairs) : IVec S8x512 32 := fun y => (P y).2 <<< l
/-- the first words with a key word added. -/
def fsts (k : BitVec 32) (P : Pairs) : IVec S8x512 32 := fun y => (P y).1 + k

/-- The block function's first group at every element of the block at grid point `i`, under the key with second word `k`
    and sum `s`. -/
def start (k s : BitVec 32) (i : grid1.Coords) : Pairs := fun y => firstK k s (k1_pay1 i y)

/-! ## The tokens' words, cut where the printed text is -/

/-- From the first group into the third, -/
def tok2 (p : BitVec 32 × BitVec 32) : BitVec 32 × BitVec 32 :=
  mixK 13 19 (injectK 1273600538#32 1705926160#32 (oddK (injectK 899080142#32 1273600539#32 p)))
/-- from the third into the fourth, -/
def tok3 (p : BitVec 32 × BitVec 32) : BitVec 32 × BitVec 32 :=
  mixK 16 16 (mixK 29 3 (mixK 17 15 (injectK 1705926158#32 899080145#32 (mixK 6 26 (mixK 26 6 (mixK 15 17 p))))))
/-- and from there to the end. -/
def tok4 (p : BitVec 32 × BitVec 32) : BitVec 32 × BitVec 32 :=
  injectK 1273600538#32 1705926163#32 (evenK (injectK 899080142#32 1273600542#32 (mixK 24 8 p)))

theorem tokens1 (i : grid1.Coords) : k1_pay9 i = snds (start 899080142#32 2605006300#32 i) := rfl
theorem tokens1' (i : grid1.Coords) : k1_pay10 i = fsts 899080142#32 (start 899080142#32 2605006300#32 i) := rfl

theorem tokens2 (P : Pairs) : k1_pay21 (snds P) (fsts 899080142#32 P) = snds (tok2 ∘ P) := rfl
theorem tokens2' (P : Pairs) : k1_pay22 (snds P) (fsts 899080142#32 P) = sums (tok2 ∘ P) := rfl
theorem tokens2'' (P : Pairs) : k1_pay23 (snds P) (fsts 899080142#32 P) = lefts 15#32 (tok2 ∘ P) := rfl

theorem tokens3 (P : Pairs) : k1_pay35 (snds P) (sums P) (lefts 15#32 P) k1_pay24 = snds (tok3 ∘ P) := rfl
theorem tokens3' (P : Pairs) : k1_pay36 (snds P) (sums P) (lefts 15#32 P) k1_pay24 = sums (tok3 ∘ P) := rfl
theorem tokens3'' (P : Pairs) : k1_pay37 (snds P) (sums P) (lefts 15#32 P) k1_pay24 = lefts 24#32 (tok3 ∘ P) := rfl

theorem tokens4 (P : Pairs) :
    k1_pay39 (snds P) (sums P) (lefts 24#32 P) k1_pay38 = fun y => (tok4 (P y)).1 ^^^ (tok4 (P y)).2 := rfl

/-- The key of the tokens, by its words: the kernel's runs one after the other are the block function. -/
theorem tok_block (n : BitVec 32) :
    tok4 (tok3 (tok2 (firstK 899080142#32 2605006300#32 n))) = block 1705926158#32 899080142#32 0#32 n :=
  roundsK_eq 1705926158#32 899080142#32 n

/-- The tokens' words of the block at grid point `i`. -/
theorem tokens (i : grid1.Coords) (x0 : Vec F S8x1 .i32) (x1 : Vec F S8x512 .i32) :
    k1_pay39 (k1_pay86 i x0 x1) (k1_pay87 i x0 x1) (k1_pay88 i x0 x1) (k1_pay89 i x0 x1)
      = fun y => word 1705926158#32 899080142#32 (k1_pay1 i y) := by
  unfold k1_pay86 k1_pay87 k1_pay88 k1_pay89 k1_pay82 k1_pay83 k1_pay84 k1_pay85 k1_pay80 k1_pay81
  rw [tokens1, tokens1', tokens2, tokens2', tokens2'', tokens3, tokens3', tokens3'', tokens4]
  funext y
  exact congrArg (fun p : BitVec 32 × BitVec 32 => p.1 ^^^ p.2) (tok_block (k1_pay1 i y))

/-! ## The uniforms' words -/

/-- From the first group into the second, -/
def uni2 (p : BitVec 32 × BitVec 32) : BitVec 32 × BitVec 32 := injectK 2916123636#32 3050711812#32 p
/-- from the second into the third, -/
def uni3 (p : BitVec 32 × BitVec 32) : BitVec 32 × BitVec 32 :=
  mixK 15 17 (mixK 13 19 (injectK 3050711811#32 64467759#32 (oddK p)))
/-- from the third to the end of the fourth, -/
def uni4 (p : BitVec 32 × BitVec 32) : BitVec 32 × BitVec 32 :=
  oddK (injectK 64467757#32 2916123639#32 (mixK 6 26 (mixK 26 6 p)))
/-- and from there to the end. -/
def uni5 (p : BitVec 32 × BitVec 32) : BitVec 32 × BitVec 32 := injectK 3050711811#32 64467762#32 (evenK (injectK 2916123636#32 3050711815#32 p))

theorem uniforms1 (i : grid1.Coords) : k1_pay49 (k1_pay1 i) = snds (uni2 ∘ start 2916123636#32 2980591393#32 i) := rfl
theorem uniforms1' (i : grid1.Coords) : k1_pay50 (k1_pay1 i) = sums (uni2 ∘ start 2916123636#32 2980591393#32 i) := rfl
theorem uniforms1'' (i : grid1.Coords) :
    k1_pay51 (k1_pay1 i) = lefts 17#32 (uni2 ∘ start 2916123636#32 2980591393#32 i) := rfl

theorem uniforms2 (P : Pairs) : k1_pay62 (snds P) (sums P) (lefts 17#32 P) 15#32 = snds (uni3 ∘ P) := rfl
theorem uniforms2' (P : Pairs) : k1_pay63 (snds P) (sums P) (lefts 17#32 P) 15#32 = sums (uni3 ∘ P) := rfl
theorem uniforms2'' (P : Pairs) : k1_pay64 (snds P) (sums P) (lefts 17#32 P) 15#32 = lefts 26#32 (uni3 ∘ P) := rfl

theorem uniforms3 (P : Pairs) : k1_pay75 (snds P) (sums P) (lefts 26#32 P) 6#32 = snds (uni4 ∘ P) := rfl
theorem uniforms3' (P : Pairs) :
    k1_pay76 (snds P) (sums P) (lefts 26#32 P) 6#32 = fsts 2916123636#32 (uni4 ∘ P) := rfl

theorem uni_block (n : BitVec 32) :
    uni5 (uni4 (uni3 (uni2 (firstK 2916123636#32 2980591393#32 n)))) = block 64467757#32 2916123636#32 0#32 n :=
  roundsK_eq 64467757#32 2916123636#32 n

/-- The last run, with what follows it in the printed text: the word shifted right by nine, below the row's threshold or
    not, chooses the old token or the new one. -/
theorem choice (P : Pairs) (T : IVec S8x512 32) (z : Vec F S8x1 .i32) (x : Vec F S8x512 .i32) (y : S8x512.Idx) :
    k1_pay78 T (snds P) (fsts 2916123636#32 P) k1_pay77 z x y
      = Scalar.select (IntOp.cmpi .ult (((uni5 (P y)).1 ^^^ (uni5 (P y)).2) >>> 9#32)
          (broadcastTo S8x512 (shapeCast S8x1 z shapeCasts_S8x1_S8x1) broadcasts_S8x1_S8x512 y)) (x y) (T y) := rfl

/-- What the second kernel stores at element `y` of its block at grid point `i`. -/
theorem stored (i : grid1.Coords) (x0 : Vec F S8x1 .i32) (x1 : Vec F S8x512 .i32) (T : IVec S8x512 32)
    (z : Vec F S8x1 .i32) (x : Vec F S8x512 .i32) (y : S8x512.Idx) :
    k1_pay78 T (k1_pay75 (k1_pay93 i x0 x1) (k1_pay94 i x0 x1) (k1_pay95 i x0 x1) 6#32)
        (k1_pay76 (k1_pay93 i x0 x1) (k1_pay94 i x0 x1) (k1_pay95 i x0 x1) 6#32) k1_pay77 z x y
      = Scalar.select (IntOp.cmpi .ult (word 64467757#32 2916123636#32 (k1_pay1 i y) >>> 9#32)
          (broadcastTo S8x512 (shapeCast S8x1 z shapeCasts_S8x1_S8x1) broadcasts_S8x1_S8x512 y)) (x y) (T y) := by
  unfold k1_pay93 k1_pay94 k1_pay95 k1_pay90 k1_pay91 k1_pay92 k1_pay79
  rw [uniforms1, uniforms1', uniforms1'', uniforms2, uniforms2', uniforms2'', uniforms3, uniforms3', choice]
  exact congrArg (fun p : BitVec 32 × BitVec 32 => Scalar.select (IntOp.cmpi .ult ((p.1 ^^^ p.2) >>> 9#32)
    (broadcastTo S8x512 (shapeCast S8x1 z shapeCasts_S8x1_S8x1) broadcasts_S8x1_S8x512 y)) (x y) (T y))
    (uni_block (k1_pay1 i y))

end Cert.Payload

end
-- ==== Proof.Thresholds.lean ====
/-
  The first kernel's value (hand-written, untrusted): at a row whose step lies in the table, the threshold is the table's
  entry at the step, times `2 ^ 23`, rounded up and cast to a word.
-/
module

public import proofs.«01_k».proof.Proof.Gen.KernelIdeal.Frame
public import Idealize.ShloMosaic.PureOps.Ideal.Laws
public import Idealize.ShloMosaic.Lib.Pipeline.Value
public import Idealize.ShloMosaic.Lib.ValueIdxCore

@[expose] public section

noncomputable section

namespace Cert.Thresholds

open Idealize.ShloMosaic Idealize.ShloMosaic.Pipeline Idealize.ShloMosaic.ValueIdx Cert.KernelIdeal Cert.KernelIdeal.Gen

/-- The threshold of a probability. -/
def threshold (a : EReal) : BitVec 32 := Ideal.fptoui 32 (Ideal.liftRound Int.ceil (a * Ideal.ofBits .f32 0x4B000000#32))

/-- The kernel's table of terms: the schedule's entry where the column is the row's step, zero elsewhere. -/
def terms (t : Vec Ideal S128x1 .i32) (a : Vec Ideal S1x1000 .f32) : FVec Ideal S128x1000 .f32 :=
  select (cmpi .eq (broadcastTo S128x1000 (shapeCast S128x1 t shapeCasts_S128x1_S128x1) broadcasts_S128x1_S128x1000)
      (iota .tc S128x1000 32 [1] iota_S128x1000_d1_w32))
    (broadcastTo S128x1000 (shapeCast S1x1000 (shapeCast S1x1000 a shapeCasts_S1x1000_S1x1000) shapeCasts_S1x1000_S1x1000)
      broadcasts_S1x1000_S128x1000)
    (broadcast S128x1000 (Scalar.ofBits .f32 0x00000000#32))

theorem payload (t : Vec Ideal S128x1 .i32) (a : Vec Ideal S1x1000 .f32) (y : S128x1.Idx) :
    k0_pay1 t a y = threshold (shapeCast S128x1
      (multiReduction .add [1] S128 (terms t a) 0x00000000#32 reduces_S128x1000_S128 (.inl rfl) rfl) shapeCasts_S128_S128x1 y) :=
  rfl

theorem term (t : Vec Ideal S128x1 .i32) (a : Vec Ideal S1x1000 .f32) (r : Fin 128) (k : Fin 1000) :
    terms t a (ix2 r k)
      = if t (ix2 r ⟨0, Nat.one_pos⟩) = BitVec.ofNat 32 k.val then a (ix2 ⟨0, Nat.one_pos⟩ k) else (0 : EReal) := by
  have ht : broadcastTo S128x1000 (shapeCast S128x1 t shapeCasts_S128x1_S128x1) broadcasts_S128x1_S128x1000 (ix2 r k)
      = t (ix2 r ⟨0, Nat.one_pos⟩) := by
    rw [shapeCast_self]
    exact broadcastTo_apply t broadcasts_S128x1_S128x1000 (ix2 r k) (ix2 r ⟨0, Nat.one_pos⟩) (fun b => by fin_cases b <;> rfl)
  have ha : broadcastTo S128x1000 (shapeCast S1x1000 (shapeCast S1x1000 a shapeCasts_S1x1000_S1x1000)
      shapeCasts_S1x1000_S1x1000) broadcasts_S1x1000_S128x1000 (ix2 r k) = a (ix2 ⟨0, Nat.one_pos⟩ k) := by
    rw [shapeCast_self, shapeCast_self]
    exact broadcastTo_apply a broadcasts_S1x1000_S128x1000 (ix2 r k) (ix2 ⟨0, Nat.one_pos⟩ k) (fun b => by fin_cases b <;> rfl)
  have hi : iota .tc S128x1000 32 [1] iota_S128x1000_d1_w32 (ix2 r k) = BitVec.ofNat 32 k.val :=
    iota_single_apply .tc S128x1000 32 1 iota_S128x1000_d1_w32 (ix2 r k)
  have hz : (Scalar.ofBits .f32 0x00000000#32 : Ideal .f32) = (0 : EReal) := Ideal.ofBits_zero_f32
  refine (congrArg (fun b => Scalar.select b _ _) (congrArg₂ (IntOp.cmpi .eq) ht hi)).trans ?_
  refine (congrArg₂ (Scalar.select _) ha hz).trans ?_
  by_cases h : t (ix2 r ⟨0, Nat.one_pos⟩) = BitVec.ofNat 32 k.val
  · rw [if_pos h, h]
    show Scalar.select (BitVec.ofBool (_ == _)) _ _ = _
    rw [beq_self_eq_true]; rfl
  · rw [if_neg h]
    show Scalar.select (BitVec.ofBool (_ == _)) _ _ = _
    rw [beq_eq_false_iff_ne.2 h]; rfl

theorem sum_eq (t : Vec Ideal S128x1 .i32) (a : Vec Ideal S1x1000 .f32) (r : Fin 128)
    (h : (t (ix2 r ⟨0, Nat.one_pos⟩)).toNat < 1000) :
    multiReduction .add [1] S128 (terms t a) 0x00000000#32 reduces_S128x1000_S128 (.inl rfl) rfl (ix1 r)
      = a (ix2 ⟨0, Nat.one_pos⟩ ⟨(t (ix2 r ⟨0, Nat.one_pos⟩)).toNat, h⟩) := by
  refine (Ideal.multiReduction_add_single (terms t a) 0x00000000#32 reduces_S128x1000_S128 (.inl rfl) rfl (ix1 r)).trans ?_
  show ∑ k : Fin 1000, terms t a (reduces_S128x1000_S128.lift (ix1 r) k) = _
  have e : ∀ k : Fin 1000, terms t a (reduces_S128x1000_S128.lift (ix1 r) k)
      = if k = ⟨(t (ix2 r ⟨0, Nat.one_pos⟩)).toNat, h⟩ then a (ix2 ⟨0, Nat.one_pos⟩ k) else (0 : EReal) := fun k => by
    have hl : reduces_S128x1000_S128.lift (ix1 r) k = ix2 r k := by
      funext b; fin_cases b <;> rfl
    rw [hl, term]
    refine if_congr ⟨fun h => Fin.ext ?_, fun h => ?_⟩ rfl rfl
    · have := congrArg BitVec.toNat h
      rw [BitVec.toNat_ofNat] at this
      have hk := k.isLt
      show k.val = (t (ix2 r ⟨0, Nat.one_pos⟩)).toNat
      omega
    · rw [h]; simp
  rw [Finset.sum_congr rfl fun k _ => e k, Finset.sum_ite_eq' Finset.univ, if_pos (Finset.mem_univ _)]

/-- The first kernel's result at a row. -/
theorem value (t : Vec Ideal S128x1 .i32) (a : Vec Ideal S1x1000 .f32) (r : Fin 128)
    (h : (t (ix2 r ⟨0, Nat.one_pos⟩)).toNat < 1000) :
    k0_pay1 t a (ix2 r ⟨0, Nat.one_pos⟩)
      = threshold (a (ix2 ⟨0, Nat.one_pos⟩ ⟨(t (ix2 r ⟨0, Nat.one_pos⟩)).toNat, h⟩)) := by
  rw [payload, ← sum_eq t a r h]
  congr 1
  exact shapeCast_apply _ shapeCasts_S128_S128x1 (ix2 r ⟨0, Nat.one_pos⟩) (ix1 r)
    (by rewrite [Shape.rowMajor_val_one, Shape.rowMajor_val_two]; show r.val = r.val * 1 + 0; omega)

end Cert.Thresholds

end
-- ==== Proof.KernelValue.lean ====
/-
  The kernels' arrays (hand-written, untrusted): what each call leaves in its result, from what it finds in its operands.
-/
module

public import proofs.«01_k».proof.Proof.Payload
public import proofs.«01_k».proof.Proof.Thresholds
public import proofs.«01_k».proof.Proof.RefValue
public import Idealize.ShloMosaic.Lib.Pipeline.ValueKit

@[expose] public section

set_option maxRecDepth 16384

noncomputable section

namespace Cert.KernelValue

open Idealize.ShloMosaic Idealize.ShloMosaic.TcCoe Idealize.ShloMosaic.Pipeline Idealize.ShloMosaic.ValueIdx Idealize.SL.Sem
  Cert.KernelIdeal Cert.KernelIdeal.Gen Cert.Words

variable (V : (c : Dev nD) → (b : Ref sig .tc) → Buf (Elt Ideal) ((c : Thread nD τ).loc b))

theorem origin : (![0, 0] : Fin 2 → Nat) = fun _ => 0 := funext fun a => by fin_cases a <;> rfl

theorem whole (t : Fin cfg0.grid.N) : win0_0.index t = ![0, 0] ∧ win0_1.index t = ![0, 0] ∧ win0_2.index t = ![0, 0] := by
  revert t
  decide +kernel

/-- The first call has one block, the whole array. -/
theorem thresholds_array (c : Dev nD) : (dat0 V c).arrAt 2 cfg0.N = k0_pay1 (F := Ideal) (V c (Pipeline.arrRef spec0 0)) (V c (Pipeline.arrRef spec0 1)) := by
  refine Dat.arrAt_eq_of_covers _ 2 _ (by decide +kernel) fun t hf y => ?_
  blk_simp
  rw [after0_2]
  unfold out0_2
  rw [View.canon_unit_zero origin, View.ld_unit_zero origin, View.ld_unit_zero origin]
  have h0 : iblk0 V c 0 t = V c (Pipeline.arrRef spec0 0) := by
    funext j
    blk_simp [iblk0]
    refine congrArg _ ?_
    blk_ext [(whole t).1]
  have h1 : iblk0 V c 1 t = V c (Pipeline.arrRef spec0 1) := by
    funext j
    blk_simp [iblk0]
    refine congrArg _ ?_
    blk_ext [(whole t).2.1]
  rw [h0, h1]
  refine congrArg _ ?_
  blk_ext [(whole t).2.2]

/-- A block's counters, by its place in the grid. -/
theorem counter (i : grid1.Coords) (y : S8x512.Idx) :
    k1_pay1 i y = (BitVec.ofNat 32 (y 0).val + BitVec.ofNat 32 (i 0).val * 8#32) * 4096#32
      + (BitVec.ofNat 32 (y 1).val + BitVec.ofNat 32 (i 1).val * 512#32) := by
  unfold k1_pay1
  show (iota _ _ _ _ _ _ + _) * _ + (iota _ _ _ _ _ _ + _) = _
  rw [iota_single_apply, iota_single_apply]
  rfl

theorem places (t : Fin cfg1.grid.N) : win1_0.index t = ![(grid1.coords t 0).val, 0] ∧ win1_1.index t = ![(grid1.coords t 0).val, (grid1.coords t 1).val]
    ∧ win1_2.index t = ![(grid1.coords t 0).val, (grid1.coords t 1).val] := by
  revert t
  decide +kernel

theorem offset (s y i : Nat) : BitVec.ofNat 32 y + BitVec.ofNat 32 i * BitVec.ofNat 32 s = BitVec.ofNat 32 (i * s + y) := by
  rw [BitVec.ofNat_add, BitVec.ofNat_mul, BitVec.add_comm]

/-- A column of bounds spread over a block. -/
theorem spread (b : IVec S8x1 32) (y : S8x512.Idx) :
    broadcastTo S8x512 (shapeCast S8x1 b shapeCasts_S8x1_S8x1) broadcasts_S8x1_S8x512 y = b (ValueIdx.ix2 (y 0) ⟨0, Nat.one_pos⟩) := by
  rw [shapeCast_self]
  exact broadcastTo_apply _ _ y (ValueIdx.ix2 (y 0) ⟨0, Nat.one_pos⟩) (fun b => by fin_cases b <;> rfl)

/-- The remainder of a block's words. -/
theorem noise (i : grid1.Coords) (x0 : Vec Ideal S8x1 .i32) (x1 : Vec Ideal S8x512 .i32) (y : S8x512.Idx) :
    k1_pay41 (k1_pay39 (k1_pay86 i x0 x1) (k1_pay87 i x0 x1) (k1_pay88 i x0 x1) (k1_pay89 i x0 x1)) (k1_pay40 (F := Ideal) (k1_pay86 i x0 x1) (k1_pay87 i x0 x1) (k1_pay88 i x0 x1) (k1_pay89 i x0 x1)) y
      = word 1705926158#32 899080142#32 (k1_pay1 i y) % 100000#32 := by
  unfold k1_pay40
  rw [Payload.tokens]
  exact Arith.remainder _

theorem main_array (c : Dev nD) : (dat1 V c).arrAt 2 cfg1.N = fun i => Scalar.select
    (IntOp.cmpi .ult (word 64467757#32 2916123636#32 (RefWords.position i) >>> 9#32) (V c (Pipeline.arrRef spec1 0) (ValueIdx.ix2 (i 0) ⟨0, Nat.one_pos⟩)))
    (V c (Pipeline.arrRef spec1 1) i) (RefValue.token i) := by
  refine Dat.arrAt_eq_of_covers _ 2 _ (by decide +kernel) fun t hf y => ?_
  blk_simp
  rw [after1_2]
  unfold out1_2
  rw [View.canon_unit_zero origin, View.ld_unit_zero origin, View.ld_unit_zero origin, Payload.stored, noise]
  have hc : k1_pay1 (grid1.coords t) y = RefWords.position ((win1_2.blk t).view.emb y) := by
    rw [counter]
    unfold RefWords.position
    blk_simp
    rw [(places t).2.2]
    exact (congr (congrArg _ (congrArg (· * _) (offset 8 (y 0).val (grid1.coords t 0).val))) (offset 512 (y 1).val (grid1.coords t 1).val))
  have h1 : iblk1 V c 1 t y = V c (Pipeline.arrRef spec1 1) ((win1_2.blk t).view.emb y) := by
    blk_ext [iblk1, V, (places t).2.1, (places t).2.2]
  have h0 : broadcastTo S8x512 (shapeCast S8x1 (iblk1 V c 0 t) shapeCasts_S8x1_S8x1) broadcasts_S8x1_S8x512 y
      = V c (Pipeline.arrRef spec1 0) (ValueIdx.ix2 (((win1_2.blk t).view.emb y) 0) ⟨0, Nat.one_pos⟩) := by
    refine (spread _ y).trans ?_
    blk_simp [iblk1]
    refine congrArg _ ?_
    refine Shape.idx_ext₂ ?_ ?_
    · refine Eq.trans ?_ (show (((win1_2.blk t).view.emb y) 0).val = _ from rfl)
      blk_simp
      rw [(places t).1, (places t).2.2]
      rfl
    · blk_simp
      rw [(places t).1]
      rfl
  rw [hc, h0, h1]
  rfl

end Cert.KernelValue

end
-- ==== Proof.KernelRun.lean ====
/-
  The kernel's run (hand-written, untrusted): where every step lies in the table, the result array ends at the corrupted
  tokens.
-/
module

public import proofs.«01_k».proof.Proof.KernelValue

@[expose] public section

set_option maxRecDepth 16384

noncomputable section

namespace Cert.KernelRun

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Words

/-! ## The two reshapes -/

theorem column (t : IVec S128 32) (r : Fin 128) : shapeCast S128x1 t shapeCasts_S128_S128x1 (ValueIdx.ix2 r ⟨0, Nat.one_pos⟩) = t (ValueIdx.ix1 r) :=
  shapeCast_apply t shapeCasts_S128_S128x1 _ (ValueIdx.ix1 r) (by
    rewrite [Shape.rowMajor_val_one, Shape.rowMajor_val_two]
    show r.val = r.val * 1 + 0
    omega)

theorem line (a : Vec Ideal S1000 .f32) (k : Fin 1000) : shapeCast S1x1000 a shapeCasts_S1000_S1x1000 (ValueIdx.ix2 ⟨0, Nat.one_pos⟩ k) = a (ValueIdx.ix1 k) :=
  shapeCast_apply a shapeCasts_S1000_S1x1000 _ (ValueIdx.ix1 k) (by
    rewrite [Shape.rowMajor_val_one, Shape.rowMajor_val_two]
    show k.val = 0 * 1000 + k.val
    omega)

/-- A step inside the table is the entry it names. -/
theorem entry_of_lt (t : BitVec 32) (h : t.toNat < 1000) : RefValue.entry t = ValueIdx.ix1 ⟨t.toNat, h⟩ := by
  unfold RefValue.entry
  refine congrArg ValueIdx.ix1 (Fin.ext ?_)
  show min t.toInt.toNat 999 = t.toNat
  rw [BitVec.toInt_eq_toNat_of_lt (by omega)]
  omega

/-- The threshold of a row whose step lies in the table. -/
theorem row_threshold (t : IVec S128 32) (a : Vec Ideal S1000 .f32) (r : Fin 128) (h : (t (ValueIdx.ix1 r)).toNat < 1000) :
    k0_pay1 (F := Ideal) (shapeCast S128x1 t shapeCasts_S128_S128x1) (shapeCast S1x1000 a shapeCasts_S1000_S1x1000) (ValueIdx.ix2 r ⟨0, Nat.one_pos⟩)
      = Thresholds.threshold (a (RefValue.entry (t (ValueIdx.ix1 r)))) := by
  have hc := column t r
  refine (Thresholds.value _ _ r (by rw [hc]; exact h)).trans (congrArg Thresholds.threshold ?_)
  rw [line, entry_of_lt _ h]
  exact congrArg a (congrArg ValueIdx.ix1 (Fin.ext (congrArg BitVec.toNat hc)))

/-- The comparison against a threshold is the comparison against its probability. -/
theorem kept (w : BitVec 32) (a : EReal) :
    IntOp.cmpi .ult (w >>> 9#32) (Thresholds.threshold a) = Ideal.cmp .olt ((((w >>> 9#32).toNat : ℝ) / 2 ^ 23 : ℝ) : EReal) a :=
  Arith.below _ (by
    show (w >>> 9).toNat < 2 ^ 23
    rw [BitVec.toNat_ushiftRight, Nat.shiftRight_eq_div_pow]
    have := w.isLt
    omega) a

/-! ## The result array -/

variable (m : (ℓ : Loc nD τ sig) → Buf (Elt Ideal) ℓ) (ρ : Dev nD → PrngReg)

theorem steps_in (c : Dev nD) : V1 m ρ c main_call0_v0 = shapeCast S128x1 (m ((c : Thread nD τ).loc main_arg1)) shapeCasts_S128_S128x1 := rfl
theorem table_in (c : Dev nD) : V1 m ρ c main_call0_v1 = shapeCast S1x1000 (m ((c : Thread nD τ).loc main_arg2)) shapeCasts_S1000_S1x1000 := rfl

theorem result_array (c : Dev nD) (ht : ∀ j, ((m ((c : Thread nD τ).loc main_arg1) : IVec S128 32) j).toNat < 1000) :
    W3 m ρ c (Proc.devRef .tc main_v0)
      = RefValue.result (m ((c : Thread nD τ).loc main_arg0)) (m ((c : Thread nD τ).loc main_arg1)) (m ((c : Thread nD τ).loc main_arg2)) := by
  refine (W3_arr m ρ c 2).trans ((KernelValue.main_array (V2 m ρ) c).trans ?_)
  have hx : V2 m ρ c (Pipeline.arrRef spec1 1) = m ((c : Thread nD τ).loc main_arg0) := W2_args m ρ c main_arg0 (by decide)
  have hb : V2 m ρ c (Pipeline.arrRef spec1 0) = k0_pay1 (F := Ideal)
      (shapeCast S128x1 (m ((c : Thread nD τ).loc main_arg1)) shapeCasts_S128_S128x1) (shapeCast S1x1000 (m ((c : Thread nD τ).loc main_arg2)) shapeCasts_S1000_S1x1000) :=
    (W2_arr m ρ c 2).trans ((KernelValue.thresholds_array (V1 m ρ) c).trans (congr (congrArg _ (steps_in m ρ c)) (table_in m ρ c)))
  rw [hx, hb]
  funext i
  refine congrArg (fun b => Scalar.select b (m ((c : Thread nD τ).loc main_arg0) i) (RefValue.token i)) ?_
  refine (congrArg _ (row_threshold _ _ (i 0) (ht _))).trans (kept _ _)

/-! ## The run -/

-- the launch's implicit arguments are found by unifying its conclusion with this one
set_option backward.isDefEq.respectTransparency.types false in
/-- Every execution ends with the result array at the corrupted tokens and the arguments as launched. -/
theorem run (ht : ∀ (c : Dev nD) j, ((m ((c : Thread nD τ).loc main_arg1) : IVec S128 32) j).toNat < 1000) :
    θ_run defs (onTc (τ := τ) (main (F := Ideal))) ⟨m, fun _ => 0, ρ⟩ (fun r => ∀ c : Dev nD,
      r.2.mem ((c.tc : Thread nD τ).loc main_v0)
        = RefValue.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v0 (by decide))).trans (result_array m ρ c (ht c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelRun

end
-- ==== Proof.lean ====
/-
  The claims (hand-written, untrusted): the frames, the reference's run, and the equality of the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_t_in_range
public import proofs.«01_k».proof.Proof.Gen.ReferenceIdeal.Run
public import proofs.«01_k».proof.Proof.Gen.ReferenceIdeal.Read
public import proofs.«01_k».proof.Proof.RefValue
public import proofs.«01_k».proof.Proof.KernelRun
public import Idealize.ShloMosaic.Adequacy
public import Idealize.ShloMosaic.Init
public import Idealize.ShloMosaic.Lib.Quiescent

@[expose] public section

noncomputable section

namespace Cert.Proof

open Idealize.ShloMosaic Idealize.SL.Sem

/-! ## The precondition -/

/-- What the precondition says of one step. -/
theorem step_in_range (t : BitVec 32) (h : IntOp.cmpi .sge t 0#32 &&& IntOp.cmpi .slt t 1000#32 = 1#1) : t.toNat < 1000 := by
  have h' : BitVec.ofBool ((0#32).sle t) &&& BitVec.ofBool (t.slt 1000#32) = 1#1 := h
  by_cases h0 : (0#32).sle t
  · by_cases h1 : t.slt 1000#32
    · have hz : 0 ≤ t.toInt := of_decide_eq_true h0
      have hl : t.toInt < 1000 := of_decide_eq_true h1
      rw [BitVec.toInt_eq_toNat_cond] at hz hl
      split_ifs at hz hl <;> omega
    · simp [h1] at h'
  · simp [h0] at h'

theorem steps_in_range (m : (ℓ : Loc Cert.KernelIdeal.nD Cert.KernelIdeal.τ Cert.KernelIdeal.sig) → Buf (Elt Ideal) ℓ) (h : Cert.Pre_KernelIdeal_t_in_range m)
    (c : Dev Cert.KernelIdeal.nD) (j : Cert.KernelIdeal.S128.Idx) :
    ((m ((c.tc : Thread Cert.KernelIdeal.nD Cert.KernelIdeal.τ).loc Cert.KernelIdeal.main_arg1) : IVec Cert.KernelIdeal.S128 32) j).toNat < 1000 :=
  step_in_range _ (congrFun (h c) j)

/-! ## The reference's run -/

theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m g)

/-- The reference ends with the corrupted tokens, where every step lies in the table. -/
theorem reference_run (m : (ℓ : Loc Cert.ReferenceIdeal.nD Cert.ReferenceIdeal.τ Cert.ReferenceIdeal.sig) → Buf (Elt Ideal) ℓ)
    (g : Dev Cert.ReferenceIdeal.nD → PrngReg)
    (ht : ∀ (c : Dev Cert.ReferenceIdeal.nD) j, ((m ((c.tc : Thread Cert.ReferenceIdeal.nD Cert.ReferenceIdeal.τ).loc Cert.ReferenceIdeal.main_arg1) : IVec Cert.ReferenceIdeal.S128 32) j).toNat < 1000) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v1025)
        = RefValue.result (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono
    (fun r h c => ⟨(h c).1.trans ((Cert.ReferenceIdeal.Read.val_main_v1025_eq (F := Ideal) (StableHlo.launchContents m c)).trans (RefValue.value _ _ _ (ht c))), (h c).2⟩)
    (Cert.ReferenceIdeal.Value.run (F := Ideal) m g)

/-! ## The claim -/

theorem equal_results : Cert.algebraic_KernelIdeal_ReferenceIdeal_pre_t_in_range := by
  intro m g m' g' hpre hargs
  have ht := steps_in_range m hpre
  refine ⟨_, KernelRun.run m g ht, ?_⟩
  refine (θ_run Cert.ReferenceIdeal.defs _ _).mono (fun r h c => ⟨(h c).1.trans ?_, (h c).2⟩)
    (reference_run m' g' fun c j => by rw [(hargs c).2.1]; exact ht c j)
  rw [(hargs c).1, (hargs c).2.1, (hargs c).2.2]

theorem claim : Cert.Claim := ⟨Cert.Kernel.Gen.facts, Cert.KernelIdeal.Gen.facts, Cert.ReferenceIdeal.Gen.facts, Cert.Pre_t_in_range.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ, trivial, equal_results⟩

end Cert.Proof

end
